-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_statistics_in_range [hPre_statistics_in_range : Cert.Pre_statistics_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_statistics_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_statistics_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_statistics_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_statistics_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_statistics_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_statistics_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_statistics_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.1 = (fun _ => 1#1)
    ∧ (Cert.Pre_statistics_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_statistics_in_range [hPre_statistics_in_range : Cert.Pre_statistics_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_statistics_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_statistics_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_statistics_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_statistics_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_statistics_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_statistics_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_statistics_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.1 = (fun _ => 1#1)
    ∧ (Cert.Pre_statistics_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2 = (fun _ => 1#1)

def Pre_Euler (m : (ℓ : Loc Cert.Euler.nD Cert.Euler.τ Cert.Euler.sig) → Buf (Elt Bits) ℓ) : Prop :=
  True

def Pre_EulerIdeal (m : (ℓ : Loc Cert.EulerIdeal.nD Cert.EulerIdeal.τ Cert.EulerIdeal.sig) → Buf (Elt Ideal) ℓ) : Prop :=
  True

def Pre_EulerReferenceIdeal (m : (ℓ : Loc Cert.EulerReferenceIdeal.nD Cert.EulerReferenceIdeal.τ Cert.EulerReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_statistics_in_range [hKernelIdeal : Cert.KernelIdeal.Facts] [hPre_statistics_in_range : Cert.Pre_statistics_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_statistics_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_statistics_in_range [hReferenceIdeal : Cert.ReferenceIdeal.Facts] [hPre_statistics_in_range : Cert.Pre_statistics_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_statistics_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Euler [hEuler : Cert.Euler.Facts] : Prop :=
  ∀ (m : (ℓ : Loc Cert.Euler.nD Cert.Euler.τ Cert.Euler.sig) → Buf (Elt Bits) ℓ) (g : Dev Cert.Euler.nD → PrngReg), Pre_Euler m →
    θ_run (Cert.Euler.defs (F := Bits)) (onTc (τ := Cert.Euler.τ) (Cert.Euler.main (F := Bits))) ⟨m, fun _ => 0, g⟩ (fun r => (∀ c : Dev Cert.Euler.nD,
      r.2.mem ((c.tc : Thread Cert.Euler.nD Cert.Euler.τ).loc Cert.Euler.main_arg0) = m ((c.tc : Thread Cert.Euler.nD Cert.Euler.τ).loc Cert.Euler.main_arg0)
      ∧ r.2.mem ((c.tc : Thread Cert.Euler.nD Cert.Euler.τ).loc Cert.Euler.main_arg1) = m ((c.tc : Thread Cert.Euler.nD Cert.Euler.τ).loc Cert.Euler.main_arg1)
      ∧ r.2.mem ((c.tc : Thread Cert.Euler.nD Cert.Euler.τ).loc Cert.Euler.main_arg2) = m ((c.tc : Thread Cert.Euler.nD Cert.Euler.τ).loc Cert.Euler.main_arg2)
      ∧ r.2.mem ((c.tc : Thread Cert.Euler.nD Cert.Euler.τ).loc Cert.Euler.main_arg3) = m ((c.tc : Thread Cert.Euler.nD Cert.Euler.τ).loc Cert.Euler.main_arg3)
      ∧ r.2.mem ((c.tc : Thread Cert.Euler.nD Cert.Euler.τ).loc Cert.Euler.main_arg4) = m ((c.tc : Thread Cert.Euler.nD Cert.Euler.τ).loc Cert.Euler.main_arg4)
      ∧ r.2.mem ((c.tc : Thread Cert.Euler.nD Cert.Euler.τ).loc Cert.Euler.main_arg5) = m ((c.tc : Thread Cert.Euler.nD Cert.Euler.τ).loc Cert.Euler.main_arg5)
      ∧ r.2.mem ((c.tc : Thread Cert.Euler.nD Cert.Euler.τ).loc Cert.Euler.main_arg6) = m ((c.tc : Thread Cert.Euler.nD Cert.Euler.τ).loc Cert.Euler.main_arg6)
      ∧ r.2.mem ((c.tc : Thread Cert.Euler.nD Cert.Euler.τ).loc Cert.Euler.main_arg7) = m ((c.tc : Thread Cert.Euler.nD Cert.Euler.τ).loc Cert.Euler.main_arg7))
      ∧ r.2.sem = fun _ => 0)

def quiescent_EulerIdeal [hEulerIdeal : Cert.EulerIdeal.Facts] : Prop :=
  ∀ (m : (ℓ : Loc Cert.EulerIdeal.nD Cert.EulerIdeal.τ Cert.EulerIdeal.sig) → Buf (Elt Ideal) ℓ) (g : Dev Cert.EulerIdeal.nD → PrngReg), Pre_EulerIdeal m →
    θ_run (Cert.EulerIdeal.defs (F := Ideal)) (onTc (τ := Cert.EulerIdeal.τ) (Cert.EulerIdeal.main (F := Ideal))) ⟨m, fun _ => 0, g⟩ (fun r => (∀ c : Dev Cert.EulerIdeal.nD,
      r.2.mem ((c.tc : Thread Cert.EulerIdeal.nD Cert.EulerIdeal.τ).loc Cert.EulerIdeal.main_arg0) = m ((c.tc : Thread Cert.EulerIdeal.nD Cert.EulerIdeal.τ).loc Cert.EulerIdeal.main_arg0)
      ∧ r.2.mem ((c.tc : Thread Cert.EulerIdeal.nD Cert.EulerIdeal.τ).loc Cert.EulerIdeal.main_arg1) = m ((c.tc : Thread Cert.EulerIdeal.nD Cert.EulerIdeal.τ).loc Cert.EulerIdeal.main_arg1)
      ∧ r.2.mem ((c.tc : Thread Cert.EulerIdeal.nD Cert.EulerIdeal.τ).loc Cert.EulerIdeal.main_arg2) = m ((c.tc : Thread Cert.EulerIdeal.nD Cert.EulerIdeal.τ).loc Cert.EulerIdeal.main_arg2)
      ∧ r.2.mem ((c.tc : Thread Cert.EulerIdeal.nD Cert.EulerIdeal.τ).loc Cert.EulerIdeal.main_arg3) = m ((c.tc : Thread Cert.EulerIdeal.nD Cert.EulerIdeal.τ).loc Cert.EulerIdeal.main_arg3)
      ∧ r.2.mem ((c.tc : Thread Cert.EulerIdeal.nD Cert.EulerIdeal.τ).loc Cert.EulerIdeal.main_arg4) = m ((c.tc : Thread Cert.EulerIdeal.nD Cert.EulerIdeal.τ).loc Cert.EulerIdeal.main_arg4)
      ∧ r.2.mem ((c.tc : Thread Cert.EulerIdeal.nD Cert.EulerIdeal.τ).loc Cert.EulerIdeal.main_arg5) = m ((c.tc : Thread Cert.EulerIdeal.nD Cert.EulerIdeal.τ).loc Cert.EulerIdeal.main_arg5)
      ∧ r.2.mem ((c.tc : Thread Cert.EulerIdeal.nD Cert.EulerIdeal.τ).loc Cert.EulerIdeal.main_arg6) = m ((c.tc : Thread Cert.EulerIdeal.nD Cert.EulerIdeal.τ).loc Cert.EulerIdeal.main_arg6)
      ∧ r.2.mem ((c.tc : Thread Cert.EulerIdeal.nD Cert.EulerIdeal.τ).loc Cert.EulerIdeal.main_arg7) = m ((c.tc : Thread Cert.EulerIdeal.nD Cert.EulerIdeal.τ).loc Cert.EulerIdeal.main_arg7))
      ∧ r.2.sem = fun _ => 0)

def quiescent_EulerReferenceIdeal [hEulerReferenceIdeal : Cert.EulerReferenceIdeal.Facts] : Prop :=
  ∀ (m : (ℓ : Loc Cert.EulerReferenceIdeal.nD Cert.EulerReferenceIdeal.τ Cert.EulerReferenceIdeal.sig) → Buf (Elt Ideal) ℓ) (g : Dev Cert.EulerReferenceIdeal.nD → PrngReg), Pre_EulerReferenceIdeal m →
    θ_run (Cert.EulerReferenceIdeal.defs (F := Ideal)) (onTc (τ := Cert.EulerReferenceIdeal.τ) (Cert.EulerReferenceIdeal.main (F := Ideal))) ⟨m, fun _ => 0, g⟩ (fun r => (∀ c : Dev Cert.EulerReferenceIdeal.nD,
      r.2.mem ((c.tc : Thread Cert.EulerReferenceIdeal.nD Cert.EulerReferenceIdeal.τ).loc Cert.EulerReferenceIdeal.main_arg0) = m ((c.tc : Thread Cert.EulerReferenceIdeal.nD Cert.EulerReferenceIdeal.τ).loc Cert.EulerReferenceIdeal.main_arg0)
      ∧ r.2.mem ((c.tc : Thread Cert.EulerReferenceIdeal.nD Cert.EulerReferenceIdeal.τ).loc Cert.EulerReferenceIdeal.main_arg1) = m ((c.tc : Thread Cert.EulerReferenceIdeal.nD Cert.EulerReferenceIdeal.τ).loc Cert.EulerReferenceIdeal.main_arg1)
      ∧ r.2.mem ((c.tc : Thread Cert.EulerReferenceIdeal.nD Cert.EulerReferenceIdeal.τ).loc Cert.EulerReferenceIdeal.main_arg2) = m ((c.tc : Thread Cert.EulerReferenceIdeal.nD Cert.EulerReferenceIdeal.τ).loc Cert.EulerReferenceIdeal.main_arg2)
      ∧ r.2.mem ((c.tc : Thread Cert.EulerReferenceIdeal.nD Cert.EulerReferenceIdeal.τ).loc Cert.EulerReferenceIdeal.main_arg3) = m ((c.tc : Thread Cert.EulerReferenceIdeal.nD Cert.EulerReferenceIdeal.τ).loc Cert.EulerReferenceIdeal.main_arg3)
      ∧ r.2.mem ((c.tc : Thread Cert.EulerReferenceIdeal.nD Cert.EulerReferenceIdeal.τ).loc Cert.EulerReferenceIdeal.main_arg4) = m ((c.tc : Thread Cert.EulerReferenceIdeal.nD Cert.EulerReferenceIdeal.τ).loc Cert.EulerReferenceIdeal.main_arg4)
      ∧ r.2.mem ((c.tc : Thread Cert.EulerReferenceIdeal.nD Cert.EulerReferenceIdeal.τ).loc Cert.EulerReferenceIdeal.main_arg5) = m ((c.tc : Thread Cert.EulerReferenceIdeal.nD Cert.EulerReferenceIdeal.τ).loc Cert.EulerReferenceIdeal.main_arg5)
      ∧ r.2.mem ((c.tc : Thread Cert.EulerReferenceIdeal.nD Cert.EulerReferenceIdeal.τ).loc Cert.EulerReferenceIdeal.main_arg6) = m ((c.tc : Thread Cert.EulerReferenceIdeal.nD Cert.EulerReferenceIdeal.τ).loc Cert.EulerReferenceIdeal.main_arg6)
      ∧ r.2.mem ((c.tc : Thread Cert.EulerReferenceIdeal.nD Cert.EulerReferenceIdeal.τ).loc Cert.EulerReferenceIdeal.main_arg7) = m ((c.tc : Thread Cert.EulerReferenceIdeal.nD Cert.EulerReferenceIdeal.τ).loc Cert.EulerReferenceIdeal.main_arg7))
      ∧ r.2.sem = fun _ => 0)

def preserves_Kernel_KernelIdeal : Prop :=
  IdealRules.bf16_pair.PackStatement Cert.KernelIdeal.S8x128
  ∧ IdealRules.bf16_pair.Statement Cert.KernelIdeal.S16x128 Cert.KernelIdeal.S8x128

def algebraic_KernelIdeal_ReferenceIdeal_pre_statistics_in_range [hKernelIdeal : Cert.KernelIdeal.Facts] [hReferenceIdeal : Cert.ReferenceIdeal.Facts] [hPre_statistics_in_range : Cert.Pre_statistics_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_statistics_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Euler_EulerIdeal : Prop :=
  True

def algebraic_EulerIdeal_EulerReferenceIdeal [hEulerIdeal : Cert.EulerIdeal.Facts] [hEulerReferenceIdeal : Cert.EulerReferenceIdeal.Facts] : Prop :=
  ∀ (m : (ℓ : Loc Cert.EulerIdeal.nD Cert.EulerIdeal.τ Cert.EulerIdeal.sig) → Buf (Elt Ideal) ℓ) (g : Dev Cert.EulerIdeal.nD → PrngReg)
    (m' : (ℓ : Loc Cert.EulerReferenceIdeal.nD Cert.EulerReferenceIdeal.τ Cert.EulerReferenceIdeal.sig) → Buf (Elt Ideal) ℓ) (g' : Dev Cert.EulerReferenceIdeal.nD → PrngReg), Pre_EulerIdeal m →
    (∀ c : Dev Cert.EulerIdeal.nD,
      m' ((c.tc : Thread Cert.EulerReferenceIdeal.nD Cert.EulerReferenceIdeal.τ).loc Cert.EulerReferenceIdeal.main_arg0) = m ((c.tc : Thread Cert.EulerIdeal.nD Cert.EulerIdeal.τ).loc Cert.EulerIdeal.main_arg0)
      ∧ m' ((c.tc : Thread Cert.EulerReferenceIdeal.nD Cert.EulerReferenceIdeal.τ).loc Cert.EulerReferenceIdeal.main_arg1) = m ((c.tc : Thread Cert.EulerIdeal.nD Cert.EulerIdeal.τ).loc Cert.EulerIdeal.main_arg1)
      ∧ m' ((c.tc : Thread Cert.EulerReferenceIdeal.nD Cert.EulerReferenceIdeal.τ).loc Cert.EulerReferenceIdeal.main_arg2) = m ((c.tc : Thread Cert.EulerIdeal.nD Cert.EulerIdeal.τ).loc Cert.EulerIdeal.main_arg2)
      ∧ m' ((c.tc : Thread Cert.EulerReferenceIdeal.nD Cert.EulerReferenceIdeal.τ).loc Cert.EulerReferenceIdeal.main_arg3) = m ((c.tc : Thread Cert.EulerIdeal.nD Cert.EulerIdeal.τ).loc Cert.EulerIdeal.main_arg3)
      ∧ m' ((c.tc : Thread Cert.EulerReferenceIdeal.nD Cert.EulerReferenceIdeal.τ).loc Cert.EulerReferenceIdeal.main_arg4) = m ((c.tc : Thread Cert.EulerIdeal.nD Cert.EulerIdeal.τ).loc Cert.EulerIdeal.main_arg4)
      ∧ m' ((c.tc : Thread Cert.EulerReferenceIdeal.nD Cert.EulerReferenceIdeal.τ).loc Cert.EulerReferenceIdeal.main_arg5) = m ((c.tc : Thread Cert.EulerIdeal.nD Cert.EulerIdeal.τ).loc Cert.EulerIdeal.main_arg5)
      ∧ m' ((c.tc : Thread Cert.EulerReferenceIdeal.nD Cert.EulerReferenceIdeal.τ).loc Cert.EulerReferenceIdeal.main_arg6) = m ((c.tc : Thread Cert.EulerIdeal.nD Cert.EulerIdeal.τ).loc Cert.EulerIdeal.main_arg6)
      ∧ m' ((c.tc : Thread Cert.EulerReferenceIdeal.nD Cert.EulerReferenceIdeal.τ).loc Cert.EulerReferenceIdeal.main_arg7) = m ((c.tc : Thread Cert.EulerIdeal.nD Cert.EulerIdeal.τ).loc Cert.EulerIdeal.main_arg7)) →
    ∃ (v0 : (c : Dev Cert.EulerIdeal.nD) → Buf (Elt Ideal) ((c.tc : Thread Cert.EulerIdeal.nD Cert.EulerIdeal.τ).loc Cert.EulerIdeal.main_v14_0)) (v1 : (c : Dev Cert.EulerIdeal.nD) → Buf (Elt Ideal) ((c.tc : Thread Cert.EulerIdeal.nD Cert.EulerIdeal.τ).loc Cert.EulerIdeal.main_v14_1)),
      θ_run (Cert.EulerIdeal.defs (F := Ideal)) (onTc (τ := Cert.EulerIdeal.τ) (Cert.EulerIdeal.main (F := Ideal))) ⟨m, fun _ => 0, g⟩ (fun r => ∀ c : Dev Cert.EulerIdeal.nD,
          r.2.mem ((c.tc : Thread Cert.EulerIdeal.nD Cert.EulerIdeal.τ).loc Cert.EulerIdeal.main_v14_0) = v0 c
          ∧ r.2.mem ((c.tc : Thread Cert.EulerIdeal.nD Cert.EulerIdeal.τ).loc Cert.EulerIdeal.main_v14_1) = v1 c
          ∧ r.2.mem ((c.tc : Thread Cert.EulerIdeal.nD Cert.EulerIdeal.τ).loc Cert.EulerIdeal.main_arg0) = m ((c.tc : Thread Cert.EulerIdeal.nD Cert.EulerIdeal.τ).loc Cert.EulerIdeal.main_arg0)
          ∧ r.2.mem ((c.tc : Thread Cert.EulerIdeal.nD Cert.EulerIdeal.τ).loc Cert.EulerIdeal.main_arg1) = m ((c.tc : Thread Cert.EulerIdeal.nD Cert.EulerIdeal.τ).loc Cert.EulerIdeal.main_arg1)
          ∧ r.2.mem ((c.tc : Thread Cert.EulerIdeal.nD Cert.EulerIdeal.τ).loc Cert.EulerIdeal.main_arg2) = m ((c.tc : Thread Cert.EulerIdeal.nD Cert.EulerIdeal.τ).loc Cert.EulerIdeal.main_arg2)
          ∧ r.2.mem ((c.tc : Thread Cert.EulerIdeal.nD Cert.EulerIdeal.τ).loc Cert.EulerIdeal.main_arg3) = m ((c.tc : Thread Cert.EulerIdeal.nD Cert.EulerIdeal.τ).loc Cert.EulerIdeal.main_arg3)
          ∧ r.2.mem ((c.tc : Thread Cert.EulerIdeal.nD Cert.EulerIdeal.τ).loc Cert.EulerIdeal.main_arg4) = m ((c.tc : Thread Cert.EulerIdeal.nD Cert.EulerIdeal.τ).loc Cert.EulerIdeal.main_arg4)
          ∧ r.2.mem ((c.tc : Thread Cert.EulerIdeal.nD Cert.EulerIdeal.τ).loc Cert.EulerIdeal.main_arg5) = m ((c.tc : Thread Cert.EulerIdeal.nD Cert.EulerIdeal.τ).loc Cert.EulerIdeal.main_arg5)
          ∧ r.2.mem ((c.tc : Thread Cert.EulerIdeal.nD Cert.EulerIdeal.τ).loc Cert.EulerIdeal.main_arg6) = m ((c.tc : Thread Cert.EulerIdeal.nD Cert.EulerIdeal.τ).loc Cert.EulerIdeal.main_arg6)
          ∧ r.2.mem ((c.tc : Thread Cert.EulerIdeal.nD Cert.EulerIdeal.τ).loc Cert.EulerIdeal.main_arg7) = m ((c.tc : Thread Cert.EulerIdeal.nD Cert.EulerIdeal.τ).loc Cert.EulerIdeal.main_arg7))
      ∧ θ_run (Cert.EulerReferenceIdeal.defs (F := Ideal)) (onTc (τ := Cert.EulerReferenceIdeal.τ) (Cert.EulerReferenceIdeal.main (F := Ideal))) ⟨m', fun _ => 0, g'⟩ (fun r => ∀ c : Dev Cert.EulerReferenceIdeal.nD,
          r.2.mem ((c.tc : Thread Cert.EulerReferenceIdeal.nD Cert.EulerReferenceIdeal.τ).loc Cert.EulerReferenceIdeal.main_v28) = v0 c
          ∧ r.2.mem ((c.tc : Thread Cert.EulerReferenceIdeal.nD Cert.EulerReferenceIdeal.τ).loc Cert.EulerReferenceIdeal.main_v23) = v1 c
          ∧ r.2.mem ((c.tc : Thread Cert.EulerReferenceIdeal.nD Cert.EulerReferenceIdeal.τ).loc Cert.EulerReferenceIdeal.main_arg0) = m' ((c.tc : Thread Cert.EulerReferenceIdeal.nD Cert.EulerReferenceIdeal.τ).loc Cert.EulerReferenceIdeal.main_arg0)
          ∧ r.2.mem ((c.tc : Thread Cert.EulerReferenceIdeal.nD Cert.EulerReferenceIdeal.τ).loc Cert.EulerReferenceIdeal.main_arg1) = m' ((c.tc : Thread Cert.EulerReferenceIdeal.nD Cert.EulerReferenceIdeal.τ).loc Cert.EulerReferenceIdeal.main_arg1)
          ∧ r.2.mem ((c.tc : Thread Cert.EulerReferenceIdeal.nD Cert.EulerReferenceIdeal.τ).loc Cert.EulerReferenceIdeal.main_arg2) = m' ((c.tc : Thread Cert.EulerReferenceIdeal.nD Cert.EulerReferenceIdeal.τ).loc Cert.EulerReferenceIdeal.main_arg2)
          ∧ r.2.mem ((c.tc : Thread Cert.EulerReferenceIdeal.nD Cert.EulerReferenceIdeal.τ).loc Cert.EulerReferenceIdeal.main_arg3) = m' ((c.tc : Thread Cert.EulerReferenceIdeal.nD Cert.EulerReferenceIdeal.τ).loc Cert.EulerReferenceIdeal.main_arg3)
          ∧ r.2.mem ((c.tc : Thread Cert.EulerReferenceIdeal.nD Cert.EulerReferenceIdeal.τ).loc Cert.EulerReferenceIdeal.main_arg4) = m' ((c.tc : Thread Cert.EulerReferenceIdeal.nD Cert.EulerReferenceIdeal.τ).loc Cert.EulerReferenceIdeal.main_arg4)
          ∧ r.2.mem ((c.tc : Thread Cert.EulerReferenceIdeal.nD Cert.EulerReferenceIdeal.τ).loc Cert.EulerReferenceIdeal.main_arg5) = m' ((c.tc : Thread Cert.EulerReferenceIdeal.nD Cert.EulerReferenceIdeal.τ).loc Cert.EulerReferenceIdeal.main_arg5)
          ∧ r.2.mem ((c.tc : Thread Cert.EulerReferenceIdeal.nD Cert.EulerReferenceIdeal.τ).loc Cert.EulerReferenceIdeal.main_arg6) = m' ((c.tc : Thread Cert.EulerReferenceIdeal.nD Cert.EulerReferenceIdeal.τ).loc Cert.EulerReferenceIdeal.main_arg6)
          ∧ r.2.mem ((c.tc : Thread Cert.EulerReferenceIdeal.nD Cert.EulerReferenceIdeal.τ).loc Cert.EulerReferenceIdeal.main_arg7) = m' ((c.tc : Thread Cert.EulerReferenceIdeal.nD Cert.EulerReferenceIdeal.τ).loc Cert.EulerReferenceIdeal.main_arg7))

def Claim : Prop :=
  ∃ (hKernel : Cert.Kernel.Facts) (hKernelIdeal : Cert.KernelIdeal.Facts) (hReferenceIdeal : Cert.ReferenceIdeal.Facts) (hEuler : Cert.Euler.Facts) (hEulerIdeal : Cert.EulerIdeal.Facts) (hEulerReferenceIdeal : Cert.EulerReferenceIdeal.Facts) (hPre_statistics_in_range : Cert.Pre_statistics_in_range.Facts),
    quiescent_Kernel (hKernel := hKernel)
    ∧ quiescent_KernelIdeal (hKernelIdeal := hKernelIdeal)
    ∧ quiescent_KernelIdeal_pre_statistics_in_range (hKernelIdeal := hKernelIdeal) (hPre_statistics_in_range := hPre_statistics_in_range)
    ∧ quiescent_ReferenceIdeal (hReferenceIdeal := hReferenceIdeal)
    ∧ quiescent_ReferenceIdeal_pre_statistics_in_range (hReferenceIdeal := hReferenceIdeal) (hPre_statistics_in_range := hPre_statistics_in_range)
    ∧ quiescent_Euler (hEuler := hEuler)
    ∧ quiescent_EulerIdeal (hEulerIdeal := hEulerIdeal)
    ∧ quiescent_EulerReferenceIdeal (hEulerReferenceIdeal := hEulerReferenceIdeal)
    ∧ preserves_Kernel_KernelIdeal
    ∧ algebraic_KernelIdeal_ReferenceIdeal_pre_statistics_in_range (hKernelIdeal := hKernelIdeal) (hReferenceIdeal := hReferenceIdeal) (hPre_statistics_in_range := hPre_statistics_in_range)
    ∧ preserves_Euler_EulerIdeal
    ∧ algebraic_EulerIdeal_EulerReferenceIdeal (hEulerIdeal := hEulerIdeal) (hEulerReferenceIdeal := hEulerReferenceIdeal)
-- ==== Pre_statistics_in_range.lean ====
abbrev S6x8192x3072 : Shape := ⟨3, ![6, 8192, 3072]⟩
abbrev S6x3072 : Shape := ⟨2, ![6, 3072]⟩
abbrev S3072x64 : Shape := ⟨2, ![3072, 64]⟩
abbrev S6x8x8192 : Shape := ⟨3, ![6, 8, 8192]⟩
abbrev S6x8x128 : Shape := ⟨3, ![6, 8, 128]⟩
abbrev S_ : Shape := ⟨0, ![]⟩
abbrev S6x3x8192 : Shape := ⟨3, ![6, 3, 8192]⟩
abbrev S6x1x8192 : Shape := ⟨3, ![6, 1, 8192]⟩
abbrev S6x8192 : Shape := ⟨2, ![6, 8192]⟩
abbrev S6x1x1 : Shape := ⟨3, ![6, 1, 1]⟩

class Facts : Prop where
  bitsLt_bf16_f32 : FTy.bits .bf16 < FTy.bits .f32
  bcast_S_S6x8192x3072 : S_.BroadcastsInDim S6x8192x3072 (![] : Fin 0 → Fin S6x8192x3072.rank)
  bcast_S_S6x3072 : S_.BroadcastsInDim S6x3072 (![] : Fin 0 → Fin S6x3072.rank)
  slices_S6x8x8192_S6x3x8192_0_0_0 : S6x8x8192.Slices ![0, 0, 0] S6x3x8192
  bcast_S_S6x3x8192 : S_.BroadcastsInDim S6x3x8192 (![] : Fin 0 → Fin S6x3x8192.rank)
  slices_S6x8x8192_S6x1x8192_0_1_0 : S6x8x8192.Slices ![0, 1, 0] S6x1x8192
  shapeCasts_S6x1x8192_S6x8192 : S6x1x8192.ShapeCasts S6x8192
  slices_S6x8x8192_S6x1x8192_0_2_0 : S6x8x8192.Slices ![0, 2, 0] S6x1x8192
  bcast_S_S6x8192 : S_.BroadcastsInDim S6x8192 (![] : Fin 0 → Fin S6x8192.rank)
  bcast_S_S6x8x128 : S_.BroadcastsInDim S6x8x128 (![] : Fin 0 → Fin S6x8x128.rank)
  slices_S6x8x128_S6x1x1_0_0_0 : S6x8x128.Slices ![0, 0, 0] S6x1x1
  bcast_S6x1x1_S6x8x128_0_1_2 : S6x1x1.BroadcastsInDim S6x8x128 (![0, 1, 2] : Fin 3 → Fin S6x8x128.rank)

variable [Facts]

def fn_part1 {F : FTy → Type} [FloatOps F] (main_arg4 : FVec F S6x8x8192 .f32) (main_arg5 : FVec F S6x8x128 .f32) (main_v3 : IVec S6x8192x3072 1) (main_v6 : IVec S6x3072 1) (main_v9 : IVec S6x3072 1) (main_v13 : IVec S6x3x8192 1) (main_v18 : FVec F S6x8192 .f32) (main_cst_3 : FVec F S_ .f32) : IVec S6x8192x3072 1 × IVec S6x3072 1 × IVec S6x3072 1 × IVec S6x3x8192 1 × IVec S6x8192 1 × IVec S6x8192 1 × IVec S6x8x128 1 × IVec S6x8x128 1 :=
  let main_v19 : FVec F S6x8192 .f32 := broadcastInDim S6x8192 ![] bcast_S_S6x8192 main_cst_3
  let main_v20 : IVec S6x8192 1 := cmpf .oeq main_v18 main_v19
  let main_v21 : FVec F S6x1x8192 .f32 := (extractStridedSlice S6x1x8192 ![0, 2, 0] · slices_S6x8x8192_S6x1x8192_0_2_0) main_arg4
  let main_v22 : FVec F S6x8192 .f32 := shapeCast S6x8192 main_v21 shapeCasts_S6x1x8192_S6x8192
  let main_cst_4 : FVec F S_ .f32 := constant S_ .f32 0x00000000#32
  let main_v23 : FVec F S6x8192 .f32 := broadcastInDim S6x8192 ![] bcast_S_S6x8192 main_cst_4
  let main_v24 : IVec S6x8192 1 := cmpf .ogt main_v22 main_v23
  let main_cst_5 : FVec F S_ .f32 := constant S_ .f32 0x00000000#32
  let main_v25 : FVec F S6x8x128 .f32 := broadcastInDim S6x8x128 ![] bcast_S_S6x8x128 main_cst_5
  let main_v26 : IVec S6x8x128 1 := cmpf .ogt main_arg5 main_v25
  let main_v27 : FVec F S6x1x1 .f32 := (extractStridedSlice S6x1x1 ![0, 0, 0] · slices_S6x8x128_S6x1x1_0_0_0) main_arg5
  let main_v28 : FVec F S6x8x128 .f32 := broadcastInDim S6x8x128 ![0, 1, 2] bcast_S6x1x1_S6x8x128_0_1_2 main_v27
  let main_v29 : IVec S6x8x128 1 := cmpf .oeq main_arg5 main_v28
  (main_v3, main_v6, main_v9, main_v13, main_v20, main_v24, main_v26, main_v29)

def fn {F : FTy → Type} [FloatOps F] (main_arg0 : FVec F S6x8192x3072 .bf16) (main_arg1 : FVec F S6x3072 .f32) (main_arg2 : FVec F S6x3072 .f32) (main_arg3 : FVec F S3072x64 .fp8e4m3) (main_arg4 : FVec F S6x8x8192 .f32) (main_arg5 : FVec F S6x8x128 .f32) : IVec S6x8192x3072 1 × IVec S6x3072 1 × IVec S6x3072 1 × IVec S6x3x8192 1 × IVec S6x8192 1 × IVec S6x8192 1 × IVec S6x8x128 1 × IVec S6x8x128 1 :=
  let main_v0 : FVec F S6x8192x3072 .f32 := (extf .f32 · bitsLt_bf16_f32) main_arg0
  let main_v1 : FVec F S6x8192x3072 .f32 := Host.absf main_v0
  let main_cst : FVec F S_ .f32 := constant S_ .f32 0x7F800000#32
  let main_v2 : FVec F S6x8192x3072 .f32 := broadcastInDim S6x8192x3072 ![] bcast_S_S6x8192x3072 main_cst
  let main_v3 : IVec S6x8192x3072 1 := cmpf .olt main_v1 main_v2
  let main_v4 : FVec F S6x3072 .f32 := Host.absf main_arg1
  let main_cst_0 : FVec F S_ .f32 := constant S_ .f32 0x7F800000#32
  let main_v5 : FVec F S6x3072 .f32 := broadcastInDim S6x3072 ![] bcast_S_S6x3072 main_cst_0
  let main_v6 : IVec S6x3072 1 := cmpf .olt main_v4 main_v5
  let main_v7 : FVec F S6x3072 .f32 := Host.absf main_arg2
  let main_cst_1 : FVec F S_ .f32 := constant S_ .f32 0x7F800000#32
  let main_v8 : FVec F S6x3072 .f32 := broadcastInDim S6x3072 ![] bcast_S_S6x3072 main_cst_1
  let main_v9 : IVec S6x3072 1 := cmpf .olt main_v7 main_v8
  let main_v10 : FVec F S6x3x8192 .f32 := (extractStridedSlice S6x3x8192 ![0, 0, 0] · slices_S6x8x8192_S6x3x8192_0_0_0) main_arg4
  let main_v11 : FVec F S6x3x8192 .f32 := Host.absf main_v10
  let main_cst_2 : FVec F S_ .f32 := constant S_ .f32 0x7F800000#32
  let main_v12 : FVec F S6x3x8192 .f32 := broadcastInDim S6x3x8192 ![] bcast_S_S6x3x8192 main_cst_2
  let main_v13 : IVec S6x3x8192 1 := cmpf .olt main_v11 main_v12
  let main_v14 : FVec F S6x1x8192 .f32 := (extractStridedSlice S6x1x8192 ![0, 1, 0] · slices_S6x8x8192_S6x1x8192_0_1_0) main_arg4
  let main_v15 : FVec F S6x8192 .f32 := shapeCast S6x8192 main_v14 shapeCasts_S6x1x8192_S6x8192
  let main_v16 : FVec F S6x1x8192 .f32 := (extractStridedSlice S6x1x8192 ![0, 2, 0] · slices_S6x8x8192_S6x1x8192_0_2_0) main_arg4
  let main_v17 : FVec F S6x8192 .f32 := shapeCast S6x8192 main_v16 shapeCasts_S6x1x8192_S6x8192
  let main_v18 : FVec F S6x8192 .f32 := mulf main_v15 main_v17
  let main_cst_3 : FVec F S_ .f32 := constant S_ .f32 0x3F800000#32
  fn_part1 (F := F) main_arg4 main_arg5 main_v3 main_v6 main_v9 main_v13 main_v18 main_cst_3
-- ==== Kernel.lean ====
abbrev S6x8192x3072 : Shape := ⟨3, ![6, 8192, 3072]⟩
abbrev S6x3072 : Shape := ⟨2, ![6, 3072]⟩
abbrev S3072x64 : Shape := ⟨2, ![3072, 64]⟩
abbrev S6x8x8192 : Shape := ⟨3, ![6, 8, 8192]⟩
abbrev S6x8x128 : Shape := ⟨3, ![6, 8, 128]⟩
abbrev S3072 : Shape := ⟨1, ![3072]⟩
abbrev S_ : Shape := ⟨0, ![]⟩
abbrev S6x12x8x2x4x2x2 : Shape := ⟨7, ![6, 12, 8, 2, 4, 2, 2]⟩
abbrev S6x12x2x2x2x4x8 : Shape := ⟨7, ![6, 12, 2, 2, 2, 4, 8]⟩
abbrev S6x3072x1 : Shape := ⟨3, ![6, 3072, 1]⟩
abbrev S6x3072x9 : Shape := ⟨3, ![6, 3072, 9]⟩
abbrev S6x3072x128 : Shape := ⟨3, ![6, 3072, 128]⟩
abbrev S3072x1 : Shape := ⟨2, ![3072, 1]⟩
abbrev S256 : Shape := ⟨1, ![256]⟩
abbrev S1x256 : Shape := ⟨2, ![1, 256]⟩
abbrev S3072x256 : Shape := ⟨2, ![3072, 256]⟩
abbrev S1x3072x256 : Shape := ⟨3, ![1, 3072, 256]⟩
abbrev S6x3072x256 : Shape := ⟨3, ![6, 3072, 256]⟩
abbrev S6x3072x384 : Shape := ⟨3, ![6, 3072, 384]⟩
abbrev S16x128 : Shape := ⟨2, ![16, 128]⟩
abbrev S64x3072 : Shape := ⟨2, ![64, 3072]⟩
abbrev S2x2x16x3072 : Shape := ⟨4, ![2, 2, 16, 3072]⟩
abbrev S64x12x8x2x4x2x2 : Shape := ⟨7, ![64, 12, 8, 2, 4, 2, 2]⟩
abbrev S64x12x2x2x2x4x8 : Shape := ⟨7, ![64, 12, 2, 2, 2, 4, 8]⟩
abbrev S6x8192x1536 : Shape := ⟨3, ![6, 8192, 1536]⟩
abbrev S6x8192x192 : Shape := ⟨3, ![6, 8192, 192]⟩
abbrev S6x64x8192 : Shape := ⟨3, ![6, 64, 8192]⟩
abbrev S1x256x3072 : Shape := ⟨3, ![1, 256, 3072]⟩
abbrev S1x3072x384 : Shape := ⟨3, ![1, 3072, 384]⟩
abbrev S1x3072x128 : Shape := ⟨3, ![1, 3072, 128]⟩
abbrev S1x8x256 : Shape := ⟨3, ![1, 8, 256]⟩
abbrev S1x8x128 : Shape := ⟨3, ![1, 8, 128]⟩
abbrev S1x256x1536 : Shape := ⟨3, ![1, 256, 1536]⟩
abbrev S1x256x192 : Shape := ⟨3, ![1, 256, 192]⟩
abbrev S1x64x256 : Shape := ⟨3, ![1, 64, 256]⟩
abbrev S1x1x256 : Shape := ⟨3, ![1, 1, 256]⟩
abbrev S16x256 : Shape := ⟨2, ![16, 256]⟩
abbrev S8x128 : Shape := ⟨2, ![8, 128]⟩
abbrev S1x256x256 : Shape := ⟨3, ![1, 256, 256]⟩
abbrev S256x256 : Shape := ⟨2, ![256, 256]⟩
abbrev S1x256x16 : Shape := ⟨3, ![1, 256, 16]⟩
abbrev S256x16 : Shape := ⟨2, ![256, 16]⟩
abbrev S1x256x128 : Shape := ⟨3, ![1, 256, 128]⟩
abbrev S256x128 : Shape := ⟨2, ![256, 128]⟩
abbrev S1x128 : Shape := ⟨2, ![1, 128]⟩
abbrev S64x128 : Shape := ⟨2, ![64, 128]⟩
abbrev S8x8x128 : Shape := ⟨3, ![8, 8, 128]⟩
abbrev S128x128 : Shape := ⟨2, ![128, 128]⟩
abbrev S1x128x128 : Shape := ⟨3, ![1, 128, 128]⟩
abbrev S64x256 : Shape := ⟨2, ![64, 256]⟩
abbrev S192x128 : Shape := ⟨2, ![192, 128]⟩
abbrev S128x192 : Shape := ⟨2, ![128, 192]⟩
abbrev S1x128x192 : Shape := ⟨3, ![1, 128, 192]⟩

abbrev nBuf : Space → Nat
  | .hbm => 88
  | .vmem => 17
  | .smem => 0
  | _ => 0

abbrev bufTy : (tb : Table) → Fin (tcTables nBuf tb) → BufTy
  | .hbm, ⟨0, _⟩ => ⟨S6x8192x3072, .bf16⟩
  | .hbm, ⟨1, _⟩ => ⟨S6x3072, .f32⟩
  | .hbm, ⟨2, _⟩ => ⟨S6x3072, .f32⟩
  | .hbm, ⟨3, _⟩ => ⟨S3072x64, .fp8e4m3⟩
  | .hbm, ⟨4, _⟩ => ⟨S6x8x8192, .f32⟩
  | .hbm, ⟨5, _⟩ => ⟨S6x8x128, .f32⟩
  | .hbm, ⟨6, _⟩ => ⟨S3072, .i32⟩
  | .hbm, ⟨7, _⟩ => ⟨S_, .f32⟩
  | .hbm, ⟨8, _⟩ => ⟨S6x3072, .f32⟩
  | .hbm, ⟨9, _⟩ => ⟨S6x3072, .f32⟩
  | .hbm, ⟨10, _⟩ => ⟨S6x3072, .bf16⟩
  | .hbm, ⟨11, _⟩ => ⟨S6x3072, .f32⟩
  | .hbm, ⟨12, _⟩ => ⟨S_, .f32⟩
  | .hbm, ⟨13, _⟩ => ⟨S6x3072, .f32⟩
  | .hbm, ⟨14, _⟩ => ⟨S6x3072, .i1⟩
  | .hbm, ⟨15, _⟩ => ⟨S_, .f32⟩
  | .hbm, ⟨16, _⟩ => ⟨S6x3072, .f32⟩
  | .hbm, ⟨17, _⟩ => ⟨S6x3072, .i1⟩
  | .hbm, ⟨18, _⟩ => ⟨S_, .f32⟩
  | .hbm, ⟨19, _⟩ => ⟨S_, .f32⟩
  | .hbm, ⟨20, _⟩ => ⟨S6x3072, .f32⟩
  | .hbm, ⟨21, _⟩ => ⟨S6x3072, .f32⟩
  | .hbm, ⟨22, _⟩ => ⟨S6x3072, .f32⟩
  | .hbm, ⟨23, _⟩ => ⟨S_, .f32⟩
  | .hbm, ⟨24, _⟩ => ⟨S_, .f32⟩
  | .hbm, ⟨25, _⟩ => ⟨S6x3072, .f32⟩
  | .hbm, ⟨26, _⟩ => ⟨S6x3072, .f32⟩
  | .hbm, ⟨27, _⟩ => ⟨S6x3072, .f32⟩
  | .hbm, ⟨28, _⟩ => ⟨S6x12x8x2x4x2x2, .f32⟩
  | .hbm, ⟨29, _⟩ => ⟨S6x12x2x2x2x4x8, .f32⟩
  | .hbm, ⟨30, _⟩ => ⟨S6x3072, .f32⟩
  | .hbm, ⟨31, _⟩ => ⟨S6x12x8x2x4x2x2, .f32⟩
  | .hbm, ⟨32, _⟩ => ⟨S6x12x2x2x2x4x8, .f32⟩
  | .hbm, ⟨33, _⟩ => ⟨S6x3072, .f32⟩
  | .hbm, ⟨34, _⟩ => ⟨S6x12x8x2x4x2x2, .f32⟩
  | .hbm, ⟨35, _⟩ => ⟨S6x12x2x2x2x4x8, .f32⟩
  | .hbm, ⟨36, _⟩ => ⟨S6x3072, .f32⟩
  | .hbm, ⟨37, _⟩ => ⟨S6x3072, .bf16⟩
  | .hbm, ⟨38, _⟩ => ⟨S6x3072, .f32⟩
  | .hbm, ⟨39, _⟩ => ⟨S6x3072, .f32⟩
  | .hbm, ⟨40, _⟩ => ⟨S6x3072, .bf16⟩
  | .hbm, ⟨41, _⟩ => ⟨S6x3072, .f32⟩
  | .hbm, ⟨42, _⟩ => ⟨S6x3072, .f32⟩
  | .hbm, ⟨43, _⟩ => ⟨S6x3072, .bf16⟩
  | .hbm, ⟨44, _⟩ => ⟨S6x3072, .bf16⟩
  | .hbm, ⟨45, _⟩ => ⟨S6x3072, .bf16⟩
  | .hbm, ⟨46, _⟩ => ⟨S6x3072x1, .bf16⟩
  | .hbm, ⟨47, _⟩ => ⟨S6x3072x1, .bf16⟩
  | .hbm, ⟨48, _⟩ => ⟨S6x3072x1, .bf16⟩
  | .hbm, ⟨49, _⟩ => ⟨S6x3072x1, .bf16⟩
  | .hbm, ⟨50, _⟩ => ⟨S6x3072x1, .bf16⟩
  | .hbm, ⟨51, _⟩ => ⟨S6x3072x1, .bf16⟩
  | .hbm, ⟨52, _⟩ => ⟨S6x3072x1, .bf16⟩
  | .hbm, ⟨53, _⟩ => ⟨S6x3072x1, .bf16⟩
  | .hbm, ⟨54, _⟩ => ⟨S6x3072x1, .bf16⟩
  | .hbm, ⟨55, _⟩ => ⟨S6x3072x9, .bf16⟩
  | .hbm, ⟨56, _⟩ => ⟨S_, .i32⟩
  | .hbm, ⟨57, _⟩ => ⟨S_, .bf16⟩
  | .hbm, ⟨58, _⟩ => ⟨S6x3072x128, .bf16⟩
  | .hbm, ⟨59, _⟩ => ⟨S3072x1, .i32⟩
  | .hbm, ⟨60, _⟩ => ⟨S256, .i32⟩
  | .hbm, ⟨61, _⟩ => ⟨S1x256, .i32⟩
  | .hbm, ⟨62, _⟩ => ⟨S3072x256, .i32⟩
  | .hbm, ⟨63, _⟩ => ⟨S3072x256, .i32⟩
  | .hbm, ⟨64, _⟩ => ⟨S3072x256, .i1⟩
  | .hbm, ⟨65, _⟩ => ⟨S1x3072x256, .i1⟩
  | .hbm, ⟨66, _⟩ => ⟨S6x3072, .bf16⟩
  | .hbm, ⟨67, _⟩ => ⟨S6x3072x1, .bf16⟩
  | .hbm, ⟨68, _⟩ => ⟨S_, .bf16⟩
  | .hbm, ⟨69, _⟩ => ⟨S6x3072x256, .i1⟩
  | .hbm, ⟨70, _⟩ => ⟨S6x3072x256, .bf16⟩
  | .hbm, ⟨71, _⟩ => ⟨S6x3072x256, .bf16⟩
  | .hbm, ⟨72, _⟩ => ⟨S6x3072x256, .bf16⟩
  | .hbm, ⟨73, _⟩ => ⟨S6x3072x384, .bf16⟩
  | .hbm, ⟨74, _⟩ => ⟨S6x3072x1, .f32⟩
  | .hbm, ⟨75, _⟩ => ⟨S6x3072x128, .f32⟩
  | .hbm, ⟨76, _⟩ => ⟨S_, .bf16⟩
  | .hbm, ⟨77, _⟩ => ⟨S16x128, .bf16⟩
  | .hbm, ⟨78, _⟩ => ⟨S64x3072, .fp8e4m3⟩
  | .hbm, ⟨79, _⟩ => ⟨S2x2x16x3072, .fp8e4m3⟩
  | .hbm, ⟨80, _⟩ => ⟨S2x2x16x3072, .fp8e4m3⟩
  | .hbm, ⟨81, _⟩ => ⟨S64x3072, .fp8e4m3⟩
  | .hbm, ⟨82, _⟩ => ⟨S64x12x8x2x4x2x2, .fp8e4m3⟩
  | .hbm, ⟨83, _⟩ => ⟨S64x12x2x2x2x4x8, .fp8e4m3⟩
  | .hbm, ⟨84, _⟩ => ⟨S64x3072, .fp8e4m3⟩
  | .hbm, ⟨85, _⟩ => ⟨S6x8192x1536, .i8⟩
  | .hbm, ⟨86, _⟩ => ⟨S6x8192x192, .fp8e4m3⟩
  | .hbm, ⟨87, _⟩ => ⟨S6x64x8192, .f32⟩
  | .local _ .vmem, ⟨0, _⟩ => ⟨S1x256x3072, .bf16⟩
  | .local _ .vmem, ⟨1, _⟩ => ⟨S1x256x3072, .bf16⟩
  | .local _ .vmem, ⟨2, _⟩ => ⟨S1x3072x384, .bf16⟩
  | .local _ .vmem, ⟨3, _⟩ => ⟨S1x3072x384, .bf16⟩
  | .local _ .vmem, ⟨4, _⟩ => ⟨S1x3072x128, .f32⟩
  | .local _ .vmem, ⟨5, _⟩ => ⟨S1x3072x128, .f32⟩
  | .local _ .vmem, ⟨6, _⟩ => ⟨S1x8x256, .f32⟩
  | .local _ .vmem, ⟨7, _⟩ => ⟨S1x8x256, .f32⟩
  | .local _ .vmem, ⟨8, _⟩ => ⟨S1x8x128, .f32⟩
  | .local _ .vmem, ⟨9, _⟩ => ⟨S1x8x128, .f32⟩
  | .local _ .vmem, ⟨10, _⟩ => ⟨S64x3072, .fp8e4m3⟩
  | .local _ .vmem, ⟨11, _⟩ => ⟨S1x256x1536, .i8⟩
  | .local _ .vmem, ⟨12, _⟩ => ⟨S1x256x1536, .i8⟩
  | .local _ .vmem, ⟨13, _⟩ => ⟨S1x256x192, .fp8e4m3⟩
  | .local _ .vmem, ⟨14, _⟩ => ⟨S1x256x192, .fp8e4m3⟩
  | .local _ .vmem, ⟨15, _⟩ => ⟨S1x64x256, .f32⟩
  | .local _ .vmem, ⟨16, _⟩ => ⟨S1x64x256, .f32⟩
  | _, _ => ⟨S6x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_4 : Ref sig .tc := ⟨.hbm, 56, rfl⟩
abbrev main_call2_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62_0 : Ref sig .tc := ⟨.hbm, 85, rfl⟩
abbrev main_v62_1 : Ref sig .tc := ⟨.hbm, 86, rfl⟩
abbrev main_v62_2 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨2, ![6, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3072x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3072x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S64x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1536 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F]
-- ==== ReferenceIdeal.lean ====
abbrev S6x8192x3072 : Shape := ⟨3, ![6, 8192, 3072]⟩
abbrev S6x3072 : Shape := ⟨2, ![6, 3072]⟩
abbrev S3072x64 : Shape := ⟨2, ![3072, 64]⟩
abbrev S6x8x8192 : Shape := ⟨3, ![6, 8, 8192]⟩
abbrev S6x8x128 : Shape := ⟨3, ![6, 8, 128]⟩
abbrev S6x8192x1536 : Shape := ⟨3, ![6, 8192, 1536]⟩
abbrev S6x8192x192 : Shape := ⟨3, ![6, 8192, 192]⟩
abbrev S6x64x8192 : Shape := ⟨3, ![6, 64, 8192]⟩
abbrev S6x1x8192 : Shape := ⟨3, ![6, 1, 8192]⟩
abbrev S6x8192 : Shape := ⟨2, ![6, 8192]⟩
abbrev S6x8192x1 : Shape := ⟨3, ![6, 8192, 1]⟩
abbrev S6x1x1 : Shape := ⟨3, ![6, 1, 1]⟩
abbrev S6 : Shape := ⟨1, ![6]⟩
abbrev S6x1x3072 : Shape := ⟨3, ![6, 1, 3072]⟩
abbrev S6x8192x192x16 : Shape := ⟨4, ![6, 8192, 192, 16]⟩
abbrev S6x8192x192x1 : Shape := ⟨4, ![6, 8192, 192, 1]⟩
abbrev S6x8192x1536x2 : Shape := ⟨4, ![6, 8192, 1536, 2]⟩
abbrev S6x8192x1536x1 : Shape := ⟨4, ![6, 8192, 1536, 1]⟩
abbrev S6x8192x192x8 : Shape := ⟨4, ![6, 8192, 192, 8]⟩
abbrev S1536x2x64 : Shape := ⟨3, ![1536, 2, 64]⟩
abbrev S1536x1x64 : Shape := ⟨3, ![1536, 1, 64]⟩
abbrev S1536x64 : Shape := ⟨2, ![1536, 64]⟩
abbrev S6x8192x64 : Shape := ⟨3, ![6, 8192, 64]⟩
abbrev S6x8192x2x2x16 : Shape := ⟨5, ![6, 8192, 2, 2, 16]⟩
abbrev S6x2x2x16x8192 : Shape := ⟨5, ![6, 2, 2, 16, 8192]⟩

abbrev nBuf : Space → Nat
  | .hbm => 9
  | .vmem => 9
  | .smem => 0
  | _ => 0

abbrev bufTy : (tb : Table) → Fin (tcTables nBuf tb) → BufTy
  | .hbm, ⟨0, _⟩ => ⟨S6x8192x3072, .bf16⟩
  | .hbm, ⟨1, _⟩ => ⟨S6x3072, .f32⟩
  | .hbm, ⟨2, _⟩ => ⟨S6x3072, .f32⟩
  | .hbm, ⟨3, _⟩ => ⟨S3072x64, .fp8e4m3⟩
  | .hbm, ⟨4, _⟩ => ⟨S6x8x8192, .f32⟩
  | .hbm, ⟨5, _⟩ => ⟨S6x8x128, .f32⟩
  | .hbm, ⟨6, _⟩ => ⟨S6x8192x1536, .i8⟩
  | .hbm, ⟨7, _⟩ => ⟨S6x8192x192, .fp8e4m3⟩
  | .hbm, ⟨8, _⟩ => ⟨S6x64x8192, .f32⟩
  | .local _ .vmem, ⟨0, _⟩ => ⟨S6x8192x3072, .bf16⟩
  | .local _ .vmem, ⟨1, _⟩ => ⟨S6x3072, .f32⟩
  | .local _ .vmem, ⟨2, _⟩ => ⟨S6x3072, .f32⟩
  | .local _ .vmem, ⟨3, _⟩ => ⟨S3072x64, .fp8e4m3⟩
  | .local _ .vmem, ⟨4, _⟩ => ⟨S6x8x8192, .f32⟩
  | .local _ .vmem, ⟨5, _⟩ => ⟨S6x8x128, .f32⟩
  | .local _ .vmem, ⟨6, _⟩ => ⟨S6x8192x1536, .i8⟩
  | .local _ .vmem, ⟨7, _⟩ => ⟨S6x8192x192, .fp8e4m3⟩
  | .local _ .vmem, ⟨8, _⟩ => ⟨S6x64x8192, .f32⟩
  | _, _ => ⟨S6x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S6x8192x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x8x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x8192x1536 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x8192x192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x64x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Euler.lean ====
abbrev S6x64x8192 : Shape := ⟨3, ![6, 64, 8192]⟩
abbrev S6x8x128 : Shape := ⟨3, ![6, 8, 128]⟩
abbrev S64 : Shape := ⟨1, ![64]⟩
abbrev S3 : Shape := ⟨1, ![3]⟩
abbrev S3x16x128x256 : Shape := ⟨4, ![3, 16, 128, 256]⟩
abbrev S6x1x1 : Shape := ⟨3, ![6, 1, 1]⟩
abbrev S6 : Shape := ⟨1, ![6]⟩
abbrev S12 : Shape := ⟨1, ![12]⟩
abbrev S2x2x16 : Shape := ⟨3, ![2, 2, 16]⟩
abbrev S64x1 : Shape := ⟨2, ![64, 1]⟩
abbrev S64x128 : Shape := ⟨2, ![64, 128]⟩
abbrev S1x64x512 : Shape := ⟨3, ![1, 64, 512]⟩
abbrev S1x16x8x256 : Shape := ⟨4, ![1, 16, 8, 256]⟩
abbrev S1 : Shape := ⟨1, ![1]⟩
abbrev S32x128 : Shape := ⟨2, ![32, 128]⟩
abbrev S1x64x128 : Shape := ⟨3, ![1, 64, 128]⟩
abbrev S32x128x1 : Shape := ⟨3, ![32, 128, 1]⟩
abbrev S16x128 : Shape := ⟨2, ![16, 128]⟩
abbrev S1x16x1x128 : Shape := ⟨4, ![1, 16, 1, 128]⟩

abbrev nBuf : Space → Nat
  | .hbm => 24
  | .vmem => 12
  | .smem => 1
  | _ => 0

abbrev bufTy : (tb : Table) → Fin (tcTables nBuf tb) → BufTy
  | .hbm, ⟨0, _⟩ => ⟨S6x64x8192, .f32⟩
  | .hbm, ⟨1, _⟩ => ⟨S6x8x128, .f32⟩
  | .hbm, ⟨2, _⟩ => ⟨S64, .f32⟩
  | .hbm, ⟨3, _⟩ => ⟨S64, .f32⟩
  | .hbm, ⟨4, _⟩ => ⟨S3, .f32⟩
  | .hbm, ⟨5, _⟩ => ⟨S3, .f32⟩
  | .hbm, ⟨6, _⟩ => ⟨S3, .f32⟩
  | .hbm, ⟨7, _⟩ => ⟨S3x16x128x256, .f32⟩
  | .hbm, ⟨8, _⟩ => ⟨S6x1x1, .f32⟩
  | .hbm, ⟨9, _⟩ => ⟨S6, .f32⟩
  | .hbm, ⟨10, _⟩ => ⟨S3, .f32⟩
  | .hbm, ⟨11, _⟩ => ⟨S12, .f32⟩
  | .hbm, ⟨12, _⟩ => ⟨S2x2x16, .f32⟩
  | .hbm, ⟨13, _⟩ => ⟨S2x2x16, .f32⟩
  | .hbm, ⟨14, _⟩ => ⟨S64, .f32⟩
  | .hbm, ⟨15, _⟩ => ⟨S64x1, .f32⟩
  | .hbm, ⟨16, _⟩ => ⟨S64x128, .f32⟩
  | .hbm, ⟨17, _⟩ => ⟨S2x2x16, .f32⟩
  | .hbm, ⟨18, _⟩ => ⟨S2x2x16, .f32⟩
  | .hbm, ⟨19, _⟩ => ⟨S64, .f32⟩
  | .hbm, ⟨20, _⟩ => ⟨S64x1, .f32⟩
  | .hbm, ⟨21, _⟩ => ⟨S64x128, .f32⟩
  | .hbm, ⟨22, _⟩ => ⟨S3x16x128x256, .f32⟩
  | .hbm, ⟨23, _⟩ => ⟨S3x16x128x256, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S64x128, .f32⟩
  | .local _ .vmem, ⟨5, _⟩ => ⟨S64x128, .f32⟩
  | .local _ .vmem, ⟨6, _⟩ => ⟨S1x16x8x256, .f32⟩
  | .local _ .vmem, ⟨7, _⟩ => ⟨S1x16x8x256, .f32⟩
  | .local _ .vmem, ⟨8, _⟩ => ⟨S1x16x8x256, .f32⟩
  | .local _ .vmem, ⟨9, _⟩ => ⟨S1x16x8x256, .f32⟩
  | .local _ .vmem, ⟨10, _⟩ => ⟨S1x16x8x256, .f32⟩
  | .local _ .vmem, ⟨11, _⟩ => ⟨S1x16x8x256, .f32⟩
  | .local _ .smem, ⟨0, _⟩ => ⟨S12, .f32⟩
  | _, _ => ⟨S6x64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![3, 16], ![false, false]⟩

def k0_off1 (i : grid0.Coords) : Fin 1 → Nat :=
  let arg0 : BitVec 32 := BitVec.ofNat 32 (i 0).val
  let v0 : Index := Scalar.indexCast arg0
  ![v0.toNat]
def k0_off2 (i : grid0.Coords) (c3_i32 : BitVec 32) : Fin 1 → Nat :=
  let arg0 : BitVec 32 := BitVec.ofNat 32 (i 0).val
  let v2 : BitVec 32 := Scalar.addi c3_i32 arg0
  let v3 : Index := Scalar.indexCast v2
  ![v3.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![v0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== EulerReferenceIdeal.lean ====
abbrev S6x64x8192 : Shape := ⟨3, ![6, 64, 8192]⟩
abbrev S6x8x128 : Shape := ⟨3, ![6, 8, 128]⟩
abbrev S64 : Shape := ⟨1, ![64]⟩
abbrev S3 : Shape := ⟨1, ![3]⟩
abbrev S3x16x128x256 : Shape := ⟨4, ![3, 16, 128, 256]⟩
abbrev S6x2x2x16x8192 : Shape := ⟨5, ![6, 2, 2, 16, 8192]⟩
abbrev S6x8192x2x2x16 : Shape := ⟨5, ![6, 8192, 2, 2, 16]⟩
abbrev S6x8192x64 : Shape := ⟨3, ![6, 8192, 64]⟩
abbrev S6x1x1 : Shape := ⟨3, ![6, 1, 1]⟩
abbrev S6 : Shape := ⟨1, ![6]⟩
abbrev S1x1x64 : Shape := ⟨3, ![1, 1, 64]⟩
abbrev S3x8192x64 : Shape := ⟨3, ![3, 8192, 64]⟩
abbrev S3x1x1 : Shape := ⟨3, ![3, 1, 1]⟩
abbrev S3x64x128x2x2x16 : Shape := ⟨6, ![3, 64, 128, 2, 2, 16]⟩
abbrev S3x16x64x2x128x2 : Shape := ⟨6, ![3, 16, 64, 2, 128, 2]⟩
abbrev S3x1x1x1 : Shape := ⟨4, ![3, 1, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S6x64x8192, .f32⟩
  | .hbm, ⟨1, _⟩ => ⟨S6x8x128, .f32⟩
  | .hbm, ⟨2, _⟩ => ⟨S64, .f32⟩
  | .hbm, ⟨3, _⟩ => ⟨S64, .f32⟩
  | .hbm, ⟨4, _⟩ => ⟨S3, .f32⟩
  | .hbm, ⟨5, _⟩ => ⟨S3, .f32⟩
  | .hbm, ⟨6, _⟩ => ⟨S3, .f32⟩
  | .hbm, ⟨7, _⟩ => ⟨S3x16x128x256, .f32⟩
  | .hbm, ⟨8, _⟩ => ⟨S6x2x2x16x8192, .f32⟩
  | .hbm, ⟨9, _⟩ => ⟨S6x8192x2x2x16, .f32⟩
  | .hbm, ⟨10, _⟩ => ⟨S6x8192x64, .f32⟩
  | .hbm, ⟨11, _⟩ => ⟨S6x1x1, .f32⟩
  | .hbm, ⟨12, _⟩ => ⟨S6, .f32⟩
  | .hbm, ⟨13, _⟩ => ⟨S6x1x1, .f32⟩
  | .hbm, ⟨14, _⟩ => ⟨S6x8192x64, .f32⟩
  | .hbm, ⟨15, _⟩ => ⟨S6x8192x64, .f32⟩
  | .hbm, ⟨16, _⟩ => ⟨S1x1x64, .f32⟩
  | .hbm, ⟨17, _⟩ => ⟨S6x8192x64, .f32⟩
  | .hbm, ⟨18, _⟩ => ⟨S6x8192x64, .f32⟩
  | .hbm, ⟨19, _⟩ => ⟨S1x1x64, .f32⟩
  | .hbm, ⟨20, _⟩ => ⟨S6x8192x64, .f32⟩
  | .hbm, ⟨21, _⟩ => ⟨S6x8192x64, .f32⟩
  | .hbm, ⟨22, _⟩ => ⟨S3x8192x64, .f32⟩
  | .hbm, ⟨23, _⟩ => ⟨S3x8192x64, .f32⟩
  | .hbm, ⟨24, _⟩ => ⟨S3x1x1, .f32⟩
  | .hbm, ⟨25, _⟩ => ⟨S3x8192x64, .f32⟩
  | .hbm, ⟨26, _⟩ => ⟨S3x8192x64, .f32⟩
  | .hbm, ⟨27, _⟩ => ⟨S3x8192x64, .f32⟩
  | .hbm, ⟨28, _⟩ => ⟨S3x8192x64, .f32⟩
  | .hbm, ⟨29, _⟩ => ⟨S3x64x128x2x2x16, .f32⟩
  | .hbm, ⟨30, _⟩ => ⟨S3x16x64x2x128x2, .f32⟩
  | .hbm, ⟨31, _⟩ => ⟨S3x16x128x256, .f32⟩
  | .hbm, ⟨32, _⟩ => ⟨S3, .f32⟩
  | .hbm, ⟨33, _⟩ => ⟨S3x1x1x1, .f32⟩
  | .hbm, ⟨34, _⟩ => ⟨S3x16x128x256, .f32⟩
  | .hbm, ⟨35, _⟩ => ⟨S3x16x128x256, .f32⟩
  | .hbm, ⟨36, _⟩ => ⟨S3x16x128x256, .f32⟩
  | _, _ => ⟨S6x64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.Quant.Vocab.lean ====
/- The quantiser's block of channels as one vocabulary: every value the body computes for one chunk of 256
   channels and one half of 128 tokens, as a function of the loads it starts from. The printed payloads are these
   functions at the loads of each chunk and half (Bridge modules). -/
module

public import proofs.«01_k».proof.Proof.Gen.KernelIdeal

@[expose] public section

set_option maxRecDepth 16384

noncomputable section

namespace Cert.KernelIdeal.Quant

open Idealize.ShloMosaic Idealize.SL.Sem Cert.KernelIdeal Cert.KernelIdeal.Gen

variable {F : FTy → Type} [FloatOps F]

/-- Eight rows of `u` from row `o` on. -/
def rb (u : FVec F S256x128 .f32) (o : Nat) (h : S256x128.Slices ![o, 0] S8x128) : FVec F S8x128 .f32 :=
  extractStridedSlice S8x128 ![o, 0] u h
/-- The running maximum of magnitudes. -/
def mx (a b : FVec F S8x128 .f32) : FVec F S8x128 .f32 := maximumf a (absf b)
/-- The largest magnitude of each even block of 16 channels. -/
def bm0 (u : FVec F S256x128 .f32) : FVec F S8x128 .f32 :=
  (mx (mx (mx (mx (mx (mx (mx (mx (mx (mx (mx (mx (mx (mx (mx (absf (rb u 0 slices_S256x128_o0_0_S8x128))
    (rb u 8 slices_S256x128_o8_0_S8x128))
    (rb u 16 slices_S256x128_o16_0_S8x128))
    (rb u 24 slices_S256x128_o24_0_S8x128))
    (rb u 64 slices_S256x128_o64_0_S8x128))
    (rb u 72 slices_S256x128_o72_0_S8x128))
    (rb u 80 slices_S256x128_o80_0_S8x128))
    (rb u 88 slices_S256x128_o88_0_S8x128))
    (rb u 128 slices_S256x128_o128_0_S8x128))
    (rb u 136 slices_S256x128_o136_0_S8x128))
    (rb u 144 slices_S256x128_o144_0_S8x128))
    (rb u 152 slices_S256x128_o152_0_S8x128))
    (rb u 192 slices_S256x128_o192_0_S8x128))
    (rb u 200 slices_S256x128_o200_0_S8x128))
    (rb u 208 slices_S256x128_o208_0_S8x128))
    (rb u 216 slices_S256x128_o216_0_S8x128))
/-- The largest magnitude of each odd block of 16 channels. -/
def bm1 (u : FVec F S256x128 .f32) : FVec F S8x128 .f32 :=
  (mx (mx (mx (mx (mx (mx (mx (mx (mx (mx (mx (mx (mx (mx (mx (absf (rb u 32 slices_S256x128_o32_0_S8x128))
    (rb u 40 slices_S256x128_o40_0_S8x128))
    (rb u 48 slices_S256x128_o48_0_S8x128))
    (rb u 56 slices_S256x128_o56_0_S8x128))
    (rb u 96 slices_S256x128_o96_0_S8x128))
    (rb u 104 slices_S256x128_o104_0_S8x128))
    (rb u 112 slices_S256x128_o112_0_S8x128))
    (rb u 120 slices_S256x128_o120_0_S8x128))
    (rb u 160 slices_S256x128_o160_0_S8x128))
    (rb u 168 slices_S256x128_o168_0_S8x128))
    (rb u 176 slices_S256x128_o176_0_S8x128))
    (rb u 184 slices_S256x128_o184_0_S8x128))
    (rb u 224 slices_S256x128_o224_0_S8x128))
    (rb u 232 slices_S256x128_o232_0_S8x128))
    (rb u 240 slices_S256x128_o240_0_S8x128))
    (rb u 248 slices_S256x128_o248_0_S8x128))
/-- The block scales from the blocks' largest magnitudes. -/
def bsOf (bm : FVec F S8x128 .f32) (rs : FVec F S1x128 .f32) (g : FVec F S8x128 .f32) : FVec F S8x128 .f32 :=
  extf .f32 (truncf .fp8e4m3 (minimumf (divf (divf (mulf (mulf bm (broadcastTo S8x128 rs broadcasts_S1x128_S8x128))
    (broadcast S8x128 (Scalar.ofBits .f32 0x3F800800#32))) (broadcast S8x128 (Scalar.ofBits .f32 0x40C00000#32))) g)
    (broadcast S8x128 (Scalar.ofBits .f32 0x43E00000#32))) bitsLt_fp8e4m3_f32) bitsLt_fp8e4m3_f32
/-- The factor that brings a block's `u` to the code's range. -/
def rrOf (bs : FVec F S8x128 .f32) (rs : FVec F S1x128 .f32) (g : FVec F S8x128 .f32) : FVec F S8x128 .f32 :=
  divf (broadcastTo S8x128 rs broadcasts_S1x128_S8x128)
    (select (cmpf .oeq (mulf bs g) (broadcast S8x128 (Scalar.ofBits .f32 0x00000000#32)))
      (broadcast S8x128 (Scalar.ofBits .f32 0x3F800000#32)) (mulf bs g))
/-- The two blocks' scales, rows interleaved. -/
def bsPair (b0 b1 : FVec F S8x128 .f32) : FVec F S16x128 .bf16 :=
  interleaveRows S16x128 (truncf .bf16 b0) (truncf .bf16 b1) bitcasts_S16x128_w16_S8x128_w32
def bs16 (b : FVec F S8x128 .f32) : FVec F S16x128 .bf16 :=
  truncf .bf16 (concatenate S16x128 0 [⟨S8x128, b⟩, ⟨S8x128, b⟩] concatenates_S8x128_S8x128_S16x128_d0) bitsLt_bf16_f32
def yCat (a0 a1 a2 a3 b0 b1 b2 b3 r0 r1 : FVec F S8x128 .f32) : FVec F S64x128 .f32 :=
  concatenate S64x128 0 [⟨S8x128, mulf a0 r0⟩, ⟨S8x128, mulf a1 r0⟩, ⟨S8x128, mulf a2 r0⟩, ⟨S8x128, mulf a3 r0⟩,
    ⟨S8x128, mulf b0 r1⟩, ⟨S8x128, mulf b1 r1⟩, ⟨S8x128, mulf b2 r1⟩, ⟨S8x128, mulf b3 r1⟩]
    concatenates_S8x128_S8x128_S8x128_S8x128_S8x128_S8x128_S8x128_S8x128_S64x128_d0
def clip (y : FVec F S64x128 .f32) : FVec F S64x128 .f32 :=
  minimumf (maximumf y (broadcast S64x128 (Scalar.ofBits .f32 0xC0C00000#32))) (broadcast S64x128 (Scalar.ofBits .f32 0x40C00000#32))
/-- The values to encode, of the four channels (by `q`) each lane group holds. -/

def y0 (u : FVec F S256x128 .f32) (r0 r1 : FVec F S8x128 .f32) : FVec F S64x128 .f32 :=
  clip (yCat (rb u 0 slices_S256x128_o0_0_S8x128) (rb u 8 slices_S256x128_o8_0_S8x128) (rb u 16 slices_S256x128_o16_0_S8x128) (rb u 24 slices_S256x128_o24_0_S8x128) (rb u 32 slices_S256x128_o32_0_S8x128) (rb u 40 slices_S256x128_o40_0_S8x128) (rb u 48 slices_S256x128_o48_0_S8x128) (rb u 56 slices_S256x128_o56_0_S8x128) r0 r1)
def y1 (u : FVec F S256x128 .f32) (r0 r1 : FVec F S8x128 .f32) : FVec F S64x128 .f32 :=
  clip (yCat (rb u 64 slices_S256x128_o64_0_S8x128) (rb u 72 slices_S256x128_o72_0_S8x128) (rb u 80 slices_S256x128_o80_0_S8x128) (rb u 88 slices_S256x128_o88_0_S8x128) (rb u 96 slices_S256x128_o96_0_S8x128) (rb u 104 slices_S256x128_o104_0_S8x128) (rb u 112 slices_S256x128_o112_0_S8x128) (rb u 120 slices_S256x128_o120_0_S8x128) r0 r1)
def y2 (u : FVec F S256x128 .f32) (r0 r1 : FVec F S8x128 .f32) : FVec F S64x128 .f32 :=
  clip (yCat (rb u 128 slices_S256x128_o128_0_S8x128) (rb u 136 slices_S256x128_o136_0_S8x128) (rb u 144 slices_S256x128_o144_0_S8x128) (rb u 152 slices_S256x128_o152_0_S8x128) (rb u 160 slices_S256x128_o160_0_S8x128) (rb u 168 slices_S256x128_o168_0_S8x128) (rb u 176 slices_S256x128_o176_0_S8x128) (rb u 184 slices_S256x128_o184_0_S8x128) r0 r1)
def y3 (u : FVec F S256x128 .f32) (r0 r1 : FVec F S8x128 .f32) : FVec F S64x128 .f32 :=
  clip (yCat (rb u 192 slices_S256x128_o192_0_S8x128) (rb u 200 slices_S256x128_o200_0_S8x128) (rb u 208 slices_S256x128_o208_0_S8x128) (rb u 216 slices_S256x128_o216_0_S8x128) (rb u 224 slices_S256x128_o224_0_S8x128) (rb u 232 slices_S256x128_o232_0_S8x128) (rb u 240 slices_S256x128_o240_0_S8x128) (rb u 248 slices_S256x128_o248_0_S8x128) r0 r1)

def gtB (a : FVec F S64x128 .f32) (b : BitVec 32) : IVec S64x128 32 :=
  extui 32 (cmpf .ogt a (broadcast S64x128 (Scalar.ofBits .f32 b))) natLt_1_32
def geB (a : FVec F S64x128 .f32) (b : BitVec 32) : IVec S64x128 32 :=
  extui 32 (cmpf .oge a (broadcast S64x128 (Scalar.ofBits .f32 b))) natLt_1_32
/-- The index of the magnitude in the table of the code's values. -/
def mOf (a : FVec F S64x128 .f32) : IVec S64x128 32 :=
  addi (addi (addi (addi (addi (addi (gtB a 0x40200000#32) (geB a 0x40600000#32)) (gtB a 0x40A00000#32))
    (gtB a 0x3E800000#32)) (geB a 0x3F400000#32)) (gtB a 0x3FA00000#32)) (geB a 0x3FE00000#32)
/-- The magnitude's rounded value. -/
def magOf (a : FVec F S64x128 .f32) : FVec F S64x128 .f32 :=
  mulf (sitofp .f32 (addi (addi (addi (mOf a) (gtB a 0x40200000#32)) (geB a 0x40600000#32))
    (muli (broadcast S64x128 3#32) (gtB a 0x40A00000#32)))) (broadcast S64x128 (Scalar.ofBits .f32 0x3F000000#32))
def negB (y : FVec F S64x128 .f32) : IVec S64x128 1 := cmpf .olt y (broadcast S64x128 (Scalar.ofBits .f32 0x00000000#32))
/-- The code, sign in bit 3. -/
def codeOf (y : FVec F S64x128 .f32) : IVec S64x128 32 :=
  select (negB y) (ori (mOf (absf y)) (broadcast S64x128 8#32)) (mOf (absf y))
def valOf (y : FVec F S64x128 .f32) : FVec F S64x128 .f32 :=
  select (negB y) (subf (broadcast S64x128 (Scalar.ofBits .f32 0x00000000#32)) (magOf (absf y))) (magOf (absf y))
/-- The decoded values times their block's scale. -/
def vOf (y : FVec F S64x128 .f32) (s0 s1 : FVec F S16x128 .bf16) : FVec F S64x128 .bf16 :=
  mulf (truncf .bf16 (valOf y) bitsLt_bf16_f32)
    (concatenate S64x128 0 [⟨S16x128, s0⟩, ⟨S16x128, s0⟩, ⟨S16x128, s1⟩, ⟨S16x128, s1⟩] concatenates_S16x128_S16x128_S16x128_S16x128_S64x128_d0)
/-- Eight codes of a lane in one word. -/
def wordOf (n : IVec S64x128 32) : IVec S8x128 32 :=
  multiReductionI .add [1] S8x128 (shapeCast S8x8x128
    (shli n (muli (broadcast S64x128 4#32) (andi (iota .tc S64x128 32 [0] iota_S64x128_d0_w32) (broadcast S64x128 7#32))))
    shapeCasts_S64x128_S8x8x128) 0#32 reduces_S8x8x128_S8x128 rfl
/-- The sign of a zero cleared in every code of the word. -/
def nzOf (w : IVec S8x128 32) : IVec S8x128 32 :=
  andi w (ori (addi (andi w (broadcast S8x128 2004318071#32)) (broadcast S8x128 2004318071#32)) (broadcast S8x128 2004318071#32))
def lowN (w : IVec S8x128 32) : IVec S8x128 32 := andi w (broadcast S8x128 252645135#32)
def pairN (e o : IVec S8x128 32) : IVec S8x128 32 := ori (lowN e) (shli (lowN o) (broadcast S8x128 4#32))
def sh (w : IVec S8x128 32) (k : BitVec 32) : IVec S8x128 32 := shrui w (broadcast S8x128 k)
def row16 (a b : IVec S8x128 32) : IVec S16x128 16 :=
  bitcast S16x128 16 (packElementwiseI16 a b) bitcasts_S8x128_w32_S16x128_w16
def catRows (p00 p01 p10 p11 : IVec S8x128 32) : IVec S128x128 16 :=
  concatenate S128x128 0 [⟨S16x128, row16 p00 p10⟩, ⟨S16x128, row16 p01 p11⟩,
    ⟨S16x128, row16 (sh p00 8#32) (sh p10 8#32)⟩, ⟨S16x128, row16 (sh p01 8#32) (sh p11 8#32)⟩,
    ⟨S16x128, row16 (sh p00 16#32) (sh p10 16#32)⟩, ⟨S16x128, row16 (sh p01 16#32) (sh p11 16#32)⟩,
    ⟨S16x128, row16 (sh p00 24#32) (sh p10 24#32)⟩, ⟨S16x128, row16 (sh p01 24#32) (sh p11 24#32)⟩]
    concatenates_S16x128_S16x128_S16x128_S16x128_S16x128_S16x128_S16x128_S16x128_S128x128_d0
/-- The bytes of the chunk, two codes each, tokens first. -/
def codesOf (w0 w1 w2 w3 : IVec S8x128 32) : IVec S1x128x128 8 :=
  shapeCast S1x128x128 (trunci 8 (transpose S128x128 [1, 0]
    (catRows (pairN w0 w1) (pairN (sh w0 4#32) (sh w1 4#32)) (pairN w2 w3) (pairN (sh w2 4#32) (sh w3 4#32)))
    transposes_S128x128_p1_0_S128x128) natLt_8_16) shapeCasts_S128x128_S1x128x128

/-! The whole of one chunk and half, from its `u`, the tokens' `rs` and the row's `g`. -/

section Half
variable (u : FVec F S256x128 .f32) (rs : FVec F S1x128 .f32) (g : FVec F S8x128 .f32)
def bsA : FVec F S8x128 .f32 := bsOf (bm0 u) rs g
def bsB : FVec F S8x128 .f32 := bsOf (bm1 u) rs g
def rA : FVec F S8x128 .f32 := rrOf (bsA u rs g) rs g
def rB : FVec F S8x128 .f32 := rrOf (bsB u rs g) rs g
def yq : Fin 4 → FVec F S64x128 .f32
  | 0 => y0 u (rA u rs g) (rB u rs g)
  | 1 => y1 u (rA u rs g) (rB u rs g)
  | 2 => y2 u (rA u rs g) (rB u rs g)
  | 3 => y3 u (rA u rs g) (rB u rs g)
def wq (q : Fin 4) : IVec S8x128 32 := nzOf (wordOf (codeOf (yq u rs g q)))
def vq (q : Fin 4) : FVec F S64x128 .bf16 := vOf (yq u rs g q) (bs16 (bsA u rs g)) (bs16 (bsB u rs g))
def codesH : IVec S1x128x128 8 := codesOf (wq u rs g 0) (wq u rs g 1) (wq u rs g 2) (wq u rs g 3)
def bsH : FVec F S16x128 .bf16 := bsPair (bsA u rs g) (bsB u rs g)
def vH : FVec F S256x128 .bf16 :=
  concatenate S256x128 0 [⟨S64x128, vq u rs g 0⟩, ⟨S64x128, vq u rs g 1⟩, ⟨S64x128, vq u rs g 2⟩, ⟨S64x128, vq u rs g 3⟩]
    concatenates_S64x128_S64x128_S64x128_S64x128_S256x128_d0
end Half

/-! `u` from the loads. -/

/-- The nine rows of statistics the second product takes, and seven of zeros. -/
def auxOf (mu std : Vec F S1x1x256 .f32) : FVec F S16x256 .bf16 :=
  have p1 (v : Vec F S1x1x256 .f32) : FVec F S1x256 .bf16 := truncf .bf16 (shapeCast S1x256 v shapeCasts_S1x1x256_S1x256) bitsLt_bf16_f32
  have r1 (v : Vec F S1x1x256 .f32) : FVec F S1x256 .f32 := subf (shapeCast S1x256 v shapeCasts_S1x1x256_S1x256) (extf .f32 (p1 v) bitsLt_bf16_f32)
  have p2 (v : Vec F S1x1x256 .f32) : FVec F S1x256 .bf16 := truncf .bf16 (r1 v) bitsLt_bf16_f32
  have p3 (v : Vec F S1x1x256 .f32) : FVec F S1x256 .bf16 := truncf .bf16 (subf (r1 v) (extf .f32 (p2 v) bitsLt_bf16_f32)) bitsLt_bf16_f32
  have z : FVec F S1x256 .f32 := broadcast S1x256 (Scalar.ofBits .f32 0x00000000#32)
  have e (v : FVec F S1x256 .bf16) : FVec F S1x256 .f32 := extf .f32 v bitsLt_bf16_f32
  truncf .bf16 (concatenate S16x256 0 [⟨S1x256, e (p1 mu)⟩, ⟨S1x256, e (p2 mu)⟩, ⟨S1x256, e (p3 mu)⟩, ⟨S1x256, e (p1 std)⟩,
    ⟨S1x256, e (p1 std)⟩, ⟨S1x256, e (p1 std)⟩, ⟨S1x256, e (p2 std)⟩, ⟨S1x256, e (p2 std)⟩, ⟨S1x256, e (p3 std)⟩,
    ⟨S1x256, z⟩, ⟨S1x256, z⟩, ⟨S1x256, z⟩, ⟨S1x256, z⟩, ⟨S1x256, z⟩, ⟨S1x256, z⟩, ⟨S1x256, z⟩]
    concatenates_S1x256_S1x256_S1x256_S1x256_S1x256_S1x256_S1x256_S1x256_S1x256_S1x256_S1x256_S1x256_S1x256_S1x256_S1x256_S1x256_S16x256_d0) bitsLt_bf16_f32

def wFull (aux : FVec F S16x256 .bf16) (la : Vec F S1x256x256 .bf16) (x : Vec F S1x256x256 .bf16) (lc : Vec F S1x256x16 .bf16) :
    FVec F S256x256 .f32 :=
  addf (matmul dot_S256x256_S256x256_S256x256_1_1_0_0_n_n none (shapeCast S256x256 la shapeCasts_S1x256x256_S256x256)
      (shapeCast S256x256 x shapeCasts_S1x256x256_S256x256) (constant S256x256 .f32 0x00000000#32))
    (matmul dot_S256x16_S16x256_S256x256_1_0_0_1_n_n none (shapeCast S256x16 lc shapeCasts_S1x256x16_S256x16) aux
      (constant S256x256 .f32 0x00000000#32))
def uL (w : FVec F S256x256 .f32) (mm : Vec F S1x256x128 .f32) : FVec F S256x128 .f32 :=
  mulf (extractStridedSlice S256x128 ![0, 0] w slices_S256x256_o0_0_S256x128) (shapeCast S256x128 mm shapeCasts_S1x256x128_S256x128)
def uR (w : FVec F S256x256 .f32) (mm : Vec F S1x256x128 .f32) : FVec F S256x128 .f32 :=
  mulf (extractStridedSlice S256x128 ![0, 128] w slices_S256x256_o0_128_S256x128) (shapeCast S256x128 mm shapeCasts_S1x256x128_S256x128)
def rsOf (v : Vec F S1x1x256 .f32) : FVec F S1x256 .f32 := shapeCast S1x256 v shapeCasts_S1x1x256_S1x256
def rsL (v : FVec F S1x256 .f32) : FVec F S1x128 .f32 := extractStridedSlice S1x128 ![0, 0] v slices_S1x256_o0_0_S1x128
def rsR (v : FVec F S1x256 .f32) : FVec F S1x128 .f32 := extractStridedSlice S1x128 ![0, 128] v slices_S1x256_o0_128_S1x128
def gOf (v : Vec F S1x8x128 .f32) : FVec F S8x128 .f32 := shapeCast S8x128 v shapeCasts_S1x8x128_S8x128
/-- One chunk's part of the product with the weights. -/
def partP (vl vr : FVec F S256x128 .bf16) (wt : Vec F S64x256 .fp8e4m3) : FVec F S64x256 .f32 :=
  matmul dot_S64x256_S256x256_S64x256_1_0_0_1_n_n none
    (extf .bf16 (shapeCast S64x256 wt shapeCasts_S64x256_S64x256) bitsLt_fp8e4m3_bf16)
    (concatenate S256x256 1 [⟨S256x128, vl⟩, ⟨S256x128, vr⟩] concatenates_S256x128_S256x128_S256x256_d1)
    (constant S64x256 .f32 0x00000000#32)

end Cert.KernelIdeal.Quant
-- ==== Proof.Quant.Chunk.lean ====
/- One chunk of 256 channels at one grid point: the rectangles its loads and stores go through, as functions of the
   chunk's number, and its values from the six input blocks. -/
module

public import proofs.«01_k».proof.Proof.Gen.KernelIdeal.Frame
public import proofs.«01_k».proof.Proof.Quant.Vocab

@[expose] public section

set_option maxRecDepth 16384

noncomputable section

namespace Cert.KernelIdeal.Quant

open Idealize.ShloMosaic Idealize.SL.Sem Cert.KernelIdeal Cert.KernelIdeal.Gen

theorem inbLa : ∀ c : Fin 12, ∀ a, (![0, 256 * c.val, 0] : Fin 3 → Nat) a + S1x256x256.size a ≤ S1x3072x384.size a := by decide
theorem inbX : ∀ c : Fin 12, ∀ a, (![0, 0, 256 * c.val] : Fin 3 → Nat) a + S1x256x256.size a ≤ S1x256x3072.size a := by decide
theorem inbLc : ∀ c : Fin 12, ∀ a, (![0, 256 * c.val, 256] : Fin 3 → Nat) a + S1x256x16.size a ≤ S1x3072x384.size a := by decide
theorem inbM : ∀ c : Fin 12, ∀ a, (![0, 256 * c.val, 0] : Fin 3 → Nat) a + S1x256x128.size a ≤ S1x3072x128.size a := by decide
theorem inbW : ∀ c : Fin 12, ∀ a, (![0, 256 * c.val] : Fin 2 → Nat) a + S64x256.size a ≤ S64x3072.size a := by decide
theorem inbC : ∀ (c : Fin 12) (h : Fin 2), ∀ a, (![0, 128 * h.val, 128 * c.val] : Fin 3 → Nat) a + S1x128x128.size a ≤ S1x256x1536.size a := by decide
theorem inbB : ∀ (h : Fin 2), ∀ a, (![0, 128 * h.val, 0] : Fin 3 → Nat) a + S1x128x192.size a ≤ S1x256x192.size a := by decide

abbrev laR (c : Fin 12) : Rect S1x3072x384 := Rect.unit (s := S1x3072x384) ![0, 256 * c.val, 0] S1x256x256.size (inbLa c)
abbrev xR (c : Fin 12) : Rect S1x256x3072 := Rect.unit (s := S1x256x3072) ![0, 0, 256 * c.val] S1x256x256.size (inbX c)
abbrev lcR (c : Fin 12) : Rect S1x3072x384 := Rect.unit (s := S1x3072x384) ![0, 256 * c.val, 256] S1x256x16.size (inbLc c)
abbrev mR (c : Fin 12) : Rect S1x3072x128 := Rect.unit (s := S1x3072x128) ![0, 256 * c.val, 0] S1x256x128.size (inbM c)
abbrev wR (c : Fin 12) : Rect S64x3072 := Rect.unit (s := S64x3072) ![0, 256 * c.val] S64x256.size (inbW c)
abbrev codesR (c : Fin 12) (h : Fin 2) : Rect S1x256x1536 := Rect.unit (s := S1x256x1536) ![0, 128 * h.val, 128 * c.val] S1x128x128.size (inbC c h)
abbrev bsR (h : Fin 2) : Rect S1x256x192 := Rect.unit (s := S1x256x192) ![0, 128 * h.val, 0] S1x128x192.size (inbB h)

variable {F : FTy → Type} [FloatOps F]

section Blocks
variable (x0 : Vec F S1x256x3072 .bf16) (x1 : Vec F S1x3072x384 .bf16) (x2 : Vec F S1x3072x128 .f32) (x3 : Vec F S1x8x256 .f32) (x4 : Vec F S1x8x128 .f32) (x5 : Vec F S64x3072 .fp8e4m3)

/-- Both halves' `u`, before the scale's rounding is made good. -/
def wC (c : Fin 12) : FVec F S256x256 .f32 :=
  wFull (auxOf (View.ld x3 r0_0) (View.ld x3 r0_1)) (View.ld x1 (laR c)) (View.ld x0 (xR c)) (View.ld x1 (lcR c))
/-- The normalised and modulated values of a chunk's half, before the multiplication by the reciprocal deviation. -/
def uC (c : Fin 12) : Fin 2 → FVec F S256x128 .f32
  | 0 => uL (wC x0 x1 x3 c) (View.ld x2 (mR c))
  | 1 => uR (wC x0 x1 x3 c) (View.ld x2 (mR c))
def rsC : Fin 2 → FVec F S1x128 .f32
  | 0 => rsL (rsOf (View.ld x3 r0_2))
  | 1 => rsR (rsOf (View.ld x3 r0_2))
def gC : FVec F S8x128 .f32 := gOf (View.ld x4 r0_3)
def codesC (c : Fin 12) (h : Fin 2) : IVec S1x128x128 8 := codesH (uC x0 x1 x2 x3 c h) (rsC x3 h) (gC x4)
def bsC (c : Fin 12) (h : Fin 2) : FVec F S16x128 .bf16 := bsH (uC x0 x1 x2 x3 c h) (rsC x3 h) (gC x4)
def vC (c : Fin 12) (h : Fin 2) : FVec F S256x128 .bf16 := vH (uC x0 x1 x2 x3 c h) (rsC x3 h) (gC x4)
def pC (c : Fin 12) : FVec F S64x256 .f32 :=
  partP (vC x0 x1 x2 x3 x4 c 0) (vC x0 x1 x2 x3 x4 c 1) (View.ld x5 (wR c))
end Blocks

end Cert.KernelIdeal.Quant
-- ==== Proof.Quant.Host.lean ====
/- The three arrays the host prepares before the quantising kernel runs, read at an index: the selection and
   coefficient matrix, the row multiplier, and the weights with their channels permuted. -/
module

public import proofs.«01_k».proof.Proof.Quant.Chunk
public import Idealize.ShloMosaic.Lib.Pipeline.ValueKit
public import Idealize.ShloMosaic.Lib.StableHlo.RunRead

@[expose] public section

set_option maxRecDepth 16384

noncomputable section

namespace Cert.KernelIdeal.Quant
open Idealize.ShloMosaic Idealize.ShloMosaic.TcCoe Idealize.SL.Sem Cert.KernelIdeal Cert.KernelIdeal.Gen

section Vocabulary
variable {F : FTy → Type} [FloatOps F]

/-- The channels of every chunk of 256, in the order the kernel keeps its rows. -/
def rowsH {ft : FTy} (x : FVec F S6x3072 ft) : FVec F S6x3072 ft :=
  shapeCast S6x3072 (transpose S6x12x2x2x2x4x8 [0, 1, 5, 6, 3, 4, 2] (shapeCast S6x12x8x2x4x2x2 x shapeCasts_S6x3072_S6x12x8x2x4x2x2)
    transposes_S6x12x8x2x4x2x2_S6x12x2x2x2x4x8_0_1_5_6_3_4_2) shapeCasts_S6x12x2x2x2x4x8_S6x3072
/-- `1 + scale`. -/
def s1H (sc : FVec F S6x3072 .f32) : FVec F S6x3072 .f32 := addf (broadcastInDim S6x3072 ![] bcast_S_S6x3072 (constant S_ .f32 0x3F800000#32)) sc
def aH (sc : FVec F S6x3072 .f32) : FVec F S6x3072 .f32 := extf .f32 (truncf .bf16 (s1H sc) bitsLt_bf16_f32) bitsLt_bf16_f32
def zH (sc : FVec F S6x3072 .f32) : IVec S6x3072 1 := cmpf .oeq (aH sc) (broadcastInDim S6x3072 ![] bcast_S_S6x3072 (constant S_ .f32 0x00000000#32))
def oneH : FVec F S6x3072 .f32 := broadcastInDim S6x3072 ![] bcast_S_S6x3072 (constant S_ .f32 0x3F800000#32)
/-- The row multiplier: `1 + scale` over its rounding, and 1 where the rounding is zero. -/
def mH (sc : FVec F S6x3072 .f32) : FVec F S6x3072 .f32 := select (zH sc) oneH (Host.divf (s1H sc) (select (zH sc) oneH (aH sc)))
def qH (sh sc : FVec F S6x3072 .f32) : FVec F S6x3072 .f32 := Host.divf sh (mH sc)
def q1H (q : FVec F S6x3072 .f32) : FVec F S6x3072 .bf16 := truncf .bf16 q bitsLt_bf16_f32
def e1H (q : FVec F S6x3072 .f32) : FVec F S6x3072 .f32 := subf q (extf .f32 (q1H q) bitsLt_bf16_f32)
def q2H (q : FVec F S6x3072 .f32) : FVec F S6x3072 .bf16 := truncf .bf16 (e1H q) bitsLt_bf16_f32
def q3H (q : FVec F S6x3072 .f32) : FVec F S6x3072 .bf16 :=
  truncf .bf16 (subf (e1H q) (extf .f32 (q2H q) bitsLt_bf16_f32)) bitsLt_bf16_f32
def colH (x : FVec F S6x3072 .bf16) : FVec F S6x3072x1 .bf16 := broadcastInDim S6x3072x1 ![0, 1] bcast_S6x3072_S6x3072x1_0_1 x
def naH (a : FVec F S6x3072 .f32) : FVec F S6x3072 .bf16 := Host.negf (truncf .bf16 a bitsLt_bf16_f32)
/-- The nine coefficient columns. -/
def cofH (a q : FVec F S6x3072 .f32) : FVec F S6x3072x9 .bf16 :=
  concatenate S6x3072x9 2 [⟨S6x3072x1, colH (naH a)⟩, ⟨S6x3072x1, colH (naH a)⟩, ⟨S6x3072x1, colH (naH a)⟩, ⟨S6x3072x1, colH (q1H q)⟩,
    ⟨S6x3072x1, colH (q2H q)⟩, ⟨S6x3072x1, colH (q3H q)⟩, ⟨S6x3072x1, colH (q1H q)⟩, ⟨S6x3072x1, colH (q2H q)⟩, ⟨S6x3072x1, colH (q1H q)⟩]
    concatenates_S6x3072x1_S6x3072x1_S6x3072x1_S6x3072x1_S6x3072x1_S6x3072x1_S6x3072x1_S6x3072x1_S6x3072x1_S6x3072x9_d2
def padH (k : FVec F S6x3072x9 .bf16) (z : IVec S_ 32) : FVec F S6x3072x128 .bf16 :=
  pad S6x3072x128 ![0, 0, 0] ![0, 0, 119] ![0, 0, 0] k (sitofp .bf16 z) pads_S6x3072x9_S6x3072x128_000_000_01190 h_S_
def ordH : IVec S3072 32 := fun i => lit0 (S3072.rowMajor i)
/-- Where a row of the permuted order holds the channel with a given number in its chunk. -/
def hitH (o : IVec S3072 32) : IVec S3072x256 1 :=
  cmpi .eq (broadcastInDim S3072x256 ![0, 1] bcast_S3072x1_S3072x256_0_1 (broadcastInDim S3072x1 ![0] bcast_S3072_S3072x1_0 o))
    (broadcastInDim S3072x256 ![0, 1] bcast_S1x256_S3072x256_0_1 (broadcastInDim S1x256 ![1] bcast_S256_S1x256_1 (iotaInDim S256 32 0)))
def selH (o : IVec S3072 32) (a : FVec F S6x3072 .f32) : FVec F S6x3072x256 .bf16 :=
  select (broadcastInDim S6x3072x256 ![0, 1, 2] bcast_S1x3072x256_S6x3072x256_0_1_2 (broadcastInDim S1x3072x256 ![1, 2] bcast_S3072x256_S1x3072x256_1_2 (hitH o)))
    (broadcastInDim S6x3072x256 ![0, 1, 2] bcast_S6x3072x1_S6x3072x256_0_1_2 (colH (truncf .bf16 a bitsLt_bf16_f32)))
    (broadcastInDim S6x3072x256 ![] bcast_S_S6x3072x256 (constant S_ .bf16 0x0000#16))
def laH (o : IVec S3072 32) (z : IVec S_ 32) (a : FVec F S6x3072 .f32) (k : FVec F S6x3072x9 .bf16) : FVec F S6x3072x384 .bf16 :=
  concatenate S6x3072x384 2 [⟨S6x3072x256, selH o a⟩, ⟨S6x3072x128, padH k z⟩] concatenates_S6x3072x256_S6x3072x128_S6x3072x384_d2
def mbH (m : FVec F S6x3072 .f32) : FVec F S6x3072x128 .f32 :=
  broadcastInDim S6x3072x128 ![0, 1, 2] bcast_S6x3072x1_S6x3072x128_0_1_2 (broadcastInDim S6x3072x1 ![0, 1] bcast_S6x3072_S6x3072x1_0_1 m)
def wtH (w : FVec F S3072x64 .fp8e4m3) : FVec F S64x3072 .fp8e4m3 :=
  shapeCast S64x3072 (transpose S64x12x2x2x2x4x8 [0, 1, 5, 6, 3, 4, 2] (shapeCast S64x12x8x2x4x2x2
    (shapeCast S64x3072 (transpose S2x2x16x3072 [1, 0, 2, 3] (shapeCast S2x2x16x3072 (transpose S64x3072 [1, 0] w transposes_S3072x64_S64x3072_1_0)
      shapeCasts_S64x3072_S2x2x16x3072) transposes_S2x2x16x3072_S2x2x16x3072_1_0_2_3) shapeCasts_S2x2x16x3072_S64x3072)
    shapeCasts_S64x3072_S64x12x8x2x4x2x2) transposes_S64x12x8x2x4x2x2_S64x12x2x2x2x4x8_0_1_5_6_3_4_2) shapeCasts_S64x12x2x2x2x4x8_S64x3072

variable (m : (ℓ : Loc nD τ sig) → Buf (Elt F) ℓ)

theorem wt_read (c : Dev nD) : V m c main_v61 = wtH (m ((c : Thread nD τ).loc main_arg3)) := by
  unfold V
  after_reads_simp
  rfl

theorem mb_read (c : Dev nD) : V m c main_v53 = mbH (rowsH (mH (m ((c : Thread nD τ).loc main_arg2)))) := by
  unfold V
  after_reads_simp
  rfl

section Stages
variable (σ : Valuation τ sig (Elt F))

theorem stA_v3 : StableHlo.after (List.flatten [hostOps0, hostOps0_1, hostOps0_2, hostOps0_3]) σ (Proc.devRef .tc main_v3) = aH (σ (Proc.devRef .tc main_arg2)) := by
  after_reads_simp
  rfl
theorem stA_v10 : StableHlo.after (List.flatten [hostOps0, hostOps0_1, hostOps0_2, hostOps0_3]) σ (Proc.devRef .tc main_v10) = mH (σ (Proc.devRef .tc main_arg2)) := by
  after_reads_simp
  rfl
theorem stA_arg1 : StableHlo.after (List.flatten [hostOps0, hostOps0_1, hostOps0_2, hostOps0_3]) σ (Proc.devRef .tc main_arg1) = σ (Proc.devRef .tc main_arg1) := by
  after_reads_simp
theorem stA_c : StableHlo.after (List.flatten [hostOps0, hostOps0_1, hostOps0_2, hostOps0_3]) σ (Proc.devRef .tc main_c) = ordH := by
  after_reads_simp
  rfl
theorem stB_v14 : StableHlo.after hostOps0_4 σ (Proc.devRef .tc main_v14) = rowsH (σ (Proc.devRef .tc main_v3) : FVec F S6x3072 .f32) := by
  after_reads_simp
  rfl
theorem stB_c : StableHlo.after hostOps0_4 σ (Proc.devRef .tc main_c) = σ (Proc.devRef .tc main_c) := by
  after_reads_simp
theorem stB_c4 : StableHlo.after hostOps0_4 σ (Proc.devRef .tc main_c_4) = constantI S_ 32 0#32 := by
  after_reads_simp
theorem stB_v39 : StableHlo.after hostOps0_4 σ (Proc.devRef .tc main_v39) = cofH (rowsH (σ (Proc.devRef .tc main_v3) : FVec F S6x3072 .f32))
    (rowsH (Host.divf (σ (Proc.devRef .tc main_arg1) : FVec F S6x3072 .f32) (σ (Proc.devRef .tc main_v10)))) := by
  after_reads_simp
  rfl
theorem stC_v51 : StableHlo.after (List.flatten [hostOps0_5, hostOps0_6, hostOps0_7, hostOps0_8]) σ (Proc.devRef .tc main_v51) =
    laH (F := F) (σ (Proc.devRef .tc main_c)) (σ (Proc.devRef .tc main_c_4)) (σ (Proc.devRef .tc main_v14)) (σ (Proc.devRef .tc main_v39)) := by
  after_reads_simp
  rfl
end Stages

theorem after_three (A B C : List (HloOp τ sig (Elt F))) (σ : Valuation τ sig (Elt F)) :
    StableHlo.after (A ++ (B ++ C)) σ = StableHlo.after C (StableHlo.after B (StableHlo.after A σ)) := by
  rw [StableHlo.after_append, StableHlo.after_append]

theorem la_read (c : Dev nD) : V m c main_v51 = laH ordH (constantI S_ 32 0#32) (rowsH (aH (m ((c : Thread nD τ).loc main_arg2))))
    (cofH (rowsH (aH (m ((c : Thread nD τ).loc main_arg2))))
    (rowsH (qH (m ((c : Thread nD τ).loc main_arg1)) (m ((c : Thread nD τ).loc main_arg2))))) := by
  have e := after_three (F := F) (List.flatten [hostOps0, hostOps0_1, hostOps0_2, hostOps0_3]) hostOps0_4
    (List.flatten [hostOps0_5, hostOps0_6, hostOps0_7, hostOps0_8]) (fun b => m (c, b))
  refine (congrFun e (Proc.devRef .tc main_v51)).trans ?_
  rw [stC_v51, stB_c, stB_c4, stB_v14, stB_v39, stA_c, stA_v3, stA_v10, stA_arg1]
  rfl
end Vocabulary

end Cert.KernelIdeal.Quant
-- ==== Proof.Quant.Words.lean ====
/- Eight four-bit codes in one word: the word as a number in base sixteen, what the masks do to each digit, and the byte
   that pairs a digit of one word with the same digit of another. -/
module

public import Idealize.ShloMosaic.Lib.Pointwise

@[expose] public section

namespace Cert.Nibbles

open Idealize.ShloMosaic

/-- The number whose `k` digits in base sixteen are `c`. -/
def horner : (k : ℕ) → (ℕ → ℕ) → ℕ
  | 0, _ => 0
  | k + 1, c => c 0 + 16 * horner k fun s => c (s + 1)

theorem horner_lt (k : ℕ) : ∀ c : ℕ → ℕ, (∀ s, c s < 16) → horner k c < 16 ^ k := by
  induction k with
  | zero => intro c _; simp [horner]
  | succ k ih =>
    intro c hc
    have h0 := hc 0
    have h1 := ih (fun s => c (s + 1)) fun s => hc _
    simp only [horner, pow_succ]; omega

theorem horner_digit (k : ℕ) : ∀ (c : ℕ → ℕ) (s : ℕ), (∀ s, c s < 16) → s < k → horner k c / 16 ^ s % 16 = c s := by
  induction k with
  | zero => intro c s _ h; omega
  | succ k ih =>
    intro c s hc hs
    have h0 := hc 0
    cases s with
    | zero => simp only [horner, pow_zero, Nat.div_one]; omega
    | succ s =>
      have h1 := ih (fun s => c (s + 1)) s (fun s => hc _) (by omega)
      have e : (c 0 + 16 * horner k fun s => c (s + 1)) / 16 = horner k fun s => c (s + 1) := by omega
      rw [horner, pow_succ', ← Nat.div_div_eq_div_mul, e]; exact h1

theorem and_step {a c : ℕ} (b d : ℕ) (ha : a < 16) (hc : c < 16) : (a + 16 * b) &&& (c + 16 * d) = (a &&& c) + 16 * (b &&& d) := by
  have hac : a &&& c < 2 ^ 4 := lt_of_le_of_lt Nat.and_le_left ha
  apply Nat.eq_of_testBit_eq; intro i
  rw [show a + 16 * b = 2 ^ 4 * b + a by omega, show c + 16 * d = 2 ^ 4 * d + c by omega,
    show (a &&& c) + 16 * (b &&& d) = 2 ^ 4 * (b &&& d) + (a &&& c) by omega,
    Nat.testBit_and, Nat.testBit_two_pow_mul_add _ ha, Nat.testBit_two_pow_mul_add _ hc, Nat.testBit_two_pow_mul_add _ hac,
    Nat.testBit_and, Nat.testBit_and]
  split <;> rfl

theorem or_step {a c : ℕ} (b d : ℕ) (ha : a < 16) (hc : c < 16) : (a + 16 * b) ||| (c + 16 * d) = (a ||| c) + 16 * (b ||| d) := by
  have hac : a ||| c < 2 ^ 4 := Nat.or_lt_two_pow ha hc
  apply Nat.eq_of_testBit_eq; intro i
  rw [show a + 16 * b = 2 ^ 4 * b + a by omega, show c + 16 * d = 2 ^ 4 * d + c by omega,
    show (a ||| c) + 16 * (b ||| d) = 2 ^ 4 * (b ||| d) + (a ||| c) by omega,
    Nat.testBit_or, Nat.testBit_two_pow_mul_add _ ha, Nat.testBit_two_pow_mul_add _ hc, Nat.testBit_two_pow_mul_add _ hac,
    Nat.testBit_or, Nat.testBit_or]
  split <;> rfl

/-- A code whose magnitude is zero loses its sign. -/
def unsign (c : ℕ) : ℕ := c &&& (((c &&& 7) + 7) ||| 7)

theorem unsign_lt {c : ℕ} (h : c < 16) : unsign c < 16 := lt_of_le_of_lt Nat.and_le_left h

theorem unsign_step : ∀ c : Fin 16, (c.val &&& 7) + 7 < 16 := by decide

theorem horner_unsign (k : ℕ) : ∀ c : ℕ → ℕ, (∀ s, c s < 16) →
    horner k c &&& (((horner k c &&& horner k fun _ => 7) + horner k fun _ => 7) ||| horner k fun _ => 7)
      = horner k fun s => unsign (c s) := by
  induction k with
  | zero => intro c _; simp [horner]
  | succ k ih =>
    intro c hc
    have h0 := hc 0
    have h7 : (c 0 &&& 7) + 7 < 16 := unsign_step ⟨c 0, h0⟩
    have e := ih (fun s => c (s + 1)) fun s => hc _
    simp only [horner]
    rw [and_step _ _ h0 (by norm_num)]
    rw [show (c 0 &&& 7) + 16 * ((horner k fun s => c (s + 1)) &&& horner k fun _ => 7) + (7 + 16 * horner k fun _ => 7)
      = ((c 0 &&& 7) + 7) + 16 * (((horner k fun s => c (s + 1)) &&& horner k fun _ => 7) + horner k fun _ => 7) by ring]
    rw [or_step _ _ h7 (by norm_num), and_step _ _ h0 (Nat.or_lt_two_pow (n := 4) h7 (by norm_num)), e]
    rfl

/-- The word that holds eight codes. -/
def word (n : Fin 8 → BitVec 32) : BitVec 32 := Finset.univ.fold IntOp.addi 0#32 fun s => n s <<< (4 * s.val)

theorem word_eq (n : Fin 8 → BitVec 32) : word n = n 0 <<< 0 + (n 1 <<< 4 + (n 2 <<< 8 + (n 3 <<< 12 + (n 4 <<< 16
    + (n 5 <<< 20 + (n 6 <<< 24 + (n 7 <<< 28 + 0#32))))))) := rfl

theorem word_toNat (n : Fin 8 → BitVec 32) (c : ℕ → ℕ) (hn : ∀ s : Fin 8, (n s).toNat = c s) (hc : ∀ s, c s < 16) :
    (word n).toNat = horner 8 c := by
  have hl := horner_lt 8 c hc
  have es : ∀ (s : Fin 8) (k : ℕ), n s <<< k = BitVec.ofNat 32 (c s * 2 ^ k) := fun s k => by
    apply BitVec.eq_of_toNat_eq
    rw [BitVec.toNat_shiftLeft, hn, BitVec.toNat_ofNat, Nat.shiftLeft_eq]
  have key : word n = BitVec.ofNat 32 (horner 8 c) := by
    rw [word_eq]
    simp only [es, ← BitVec.ofNat_add]
    congr 1
    simp only [horner]
    simp
    ring
  rw [key, BitVec.toNat_ofNat, Nat.mod_eq_of_lt (lt_of_lt_of_le hl (by norm_num))]

/-- The masked word. -/
def nz (w : BitVec 32) : BitVec 32 := w &&& (((w &&& 2004318071#32) + 2004318071#32) ||| 2004318071#32)

theorem nz_toNat (w : BitVec 32) (c : ℕ → ℕ) (hw : w.toNat = horner 8 c) (hc : ∀ s, c s < 16) :
    (nz w).toNat = horner 8 fun s => unsign (c s) := by
  have e7 : (2004318071#32).toNat = horner 8 fun _ => 7 := by decide
  have hb : (horner 8 c &&& horner 8 fun _ => 7) + (horner 8 fun _ => 7) < 2 ^ 32 := by
    have h1 : (horner 8 c &&& horner 8 fun _ => 7) ≤ horner 8 fun _ => 7 := Nat.and_le_right
    have h2 : (horner 8 fun _ => 7) = 2004318071 := by decide
    omega
  rw [← horner_unsign 8 c hc]
  unfold nz
  rw [BitVec.toNat_and, BitVec.toNat_or, BitVec.toNat_add, BitVec.toNat_and, e7, hw, Nat.mod_eq_of_lt hb]

/-- The low nibbles of `e` with those of `o` above them. -/
def pair (e o : BitVec 32) : BitVec 32 := (e &&& 252645135#32) ||| ((o &&& 252645135#32) <<< 4)

/-- Byte `k` of the paired words, after a shift of both by `4 * p`, holds digit `2 * k + p` of each. -/
theorem byte_of_pair (e o : BitVec 32) (k : Fin 4) (p : Fin 2) :
    (pair (e >>> (4 * p.val)) (o >>> (4 * p.val)) >>> (8 * k.val)).setWidth 8
      = BitVec.ofNat 8 (e.toNat / 16 ^ (2 * k.val + p.val) % 16 + 16 * (o.toNat / 16 ^ (2 * k.val + p.val) % 16)) := by
  apply BitVec.eq_of_getLsbD_eq; intro i hi
  have h2 : (16 : ℕ) ^ (2 * k.val + p.val) = 2 ^ (4 * (2 * k.val + p.val)) := by rw [pow_mul]; norm_num
  have hlt : e.toNat / 16 ^ (2 * k.val + p.val) % 16 < 2 ^ 4 := Nat.mod_lt _ (by norm_num)
  rw [BitVec.getLsbD_ofNat, show e.toNat / 16 ^ (2 * k.val + p.val) % 16 + 16 * (o.toNat / 16 ^ (2 * k.val + p.val) % 16)
    = 2 ^ 4 * (o.toNat / 16 ^ (2 * k.val + p.val) % 16) + e.toNat / 16 ^ (2 * k.val + p.val) % 16 by ring,
    Nat.testBit_two_pow_mul_add _ hlt, h2, show (16 : ℕ) = 2 ^ 4 by norm_num]
  simp only [Nat.testBit_mod_two_pow, Nat.testBit_div_two_pow, BitVec.testBit_toNat, pair, BitVec.getLsbD_setWidth,
    BitVec.getLsbD_ushiftRight, BitVec.getLsbD_or, BitVec.getLsbD_and, BitVec.getLsbD_shiftLeft]
  fin_cases k <;> fin_cases p <;> interval_cases i <;> simp

end Cert.Nibbles
-- ==== Proof.Quant.Spec.lean ====
/- The four-bit code and its decoding, one number at a time: how many of the seven thresholds a magnitude passes, and
   what the kernel's and the plain form's comparisons are in terms of that count. -/
module

public import Idealize.ShloMosaic.Lib.Pointwise
public import proofs.«01_k».proof.Proof.Quant.Words

@[expose] public section

noncomputable section

namespace Cert.Nvfp4

open Idealize.ShloMosaic

theorem c025 : Ideal.ofBits .f32 0x3E800000#32 = ((1 / 4 : ℝ) : EReal) := by
  simp [Ideal.ofBits, Ideal.ieee, -EReal.coe_mul]; norm_num
theorem c075 : Ideal.ofBits .f32 0x3F400000#32 = ((3 / 4 : ℝ) : EReal) := by
  simp [Ideal.ofBits, Ideal.ieee, -EReal.coe_mul]; norm_num
theorem c125 : Ideal.ofBits .f32 0x3FA00000#32 = ((5 / 4 : ℝ) : EReal) := by
  simp [Ideal.ofBits, Ideal.ieee, -EReal.coe_mul]; norm_num
theorem c175 : Ideal.ofBits .f32 0x3FE00000#32 = ((7 / 4 : ℝ) : EReal) := by
  simp [Ideal.ofBits, Ideal.ieee, -EReal.coe_mul]; norm_num
theorem c25 : Ideal.ofBits .f32 0x40200000#32 = ((5 / 2 : ℝ) : EReal) := by
  simp [Ideal.ofBits, Ideal.ieee, -EReal.coe_mul]; norm_num
theorem c35 : Ideal.ofBits .f32 0x40600000#32 = ((7 / 2 : ℝ) : EReal) := by
  simp [Ideal.ofBits, Ideal.ieee, -EReal.coe_mul]; norm_num
theorem c5 : Ideal.ofBits .f32 0x40A00000#32 = ((5 : ℝ) : EReal) := by
  simp [Ideal.ofBits, Ideal.ieee, -EReal.coe_mul]; norm_num
theorem c6 : Ideal.ofBits .f32 0x40C00000#32 = ((6 : ℝ) : EReal) := by
  simp [Ideal.ofBits, Ideal.ieee, -EReal.coe_mul]; norm_num
theorem cm6 : Ideal.ofBits .f32 0xC0C00000#32 = ((-6 : ℝ) : EReal) := by
  simp [Ideal.ofBits, Ideal.ieee, -EReal.coe_mul]; norm_num
theorem chalf : Ideal.ofBits .f32 0x3F000000#32 = ((1 / 2 : ℝ) : EReal) := by
  simp [Ideal.ofBits, Ideal.ieee, -EReal.coe_mul]; norm_num
theorem c448 : Ideal.ofBits .f32 0x43E00000#32 = ((448 : ℝ) : EReal) := by
  simp [Ideal.ofBits, Ideal.ieee, -EReal.coe_mul]; norm_num

/-- How many of the seven thresholds a magnitude passes. -/
def lad (a : EReal) : Fin 8 :=
  if ((5 : ℝ) : EReal) < a then 7 else if ((7 / 2 : ℝ) : EReal) ≤ a then 6 else if ((5 / 2 : ℝ) : EReal) < a then 5
  else if ((7 / 4 : ℝ) : EReal) ≤ a then 4 else if ((5 / 4 : ℝ) : EReal) < a then 3 else if ((3 / 4 : ℝ) : EReal) ≤ a then 2
  else if ((1 / 4 : ℝ) : EReal) < a then 1 else 0

theorem lad_spec (a : EReal) :
    (((1 / 4 : ℝ) : EReal) < a ↔ 1 ≤ lad a) ∧ (((3 / 4 : ℝ) : EReal) ≤ a ↔ 2 ≤ lad a) ∧
    (((5 / 4 : ℝ) : EReal) < a ↔ 3 ≤ lad a) ∧ (((7 / 4 : ℝ) : EReal) ≤ a ↔ 4 ≤ lad a) ∧
    (((5 / 2 : ℝ) : EReal) < a ↔ 5 ≤ lad a) ∧ (((7 / 2 : ℝ) : EReal) ≤ a ↔ 6 ≤ lad a) ∧
    (((5 : ℝ) : EReal) < a ↔ 7 ≤ lad a) := by
  have h76 : ((5 : ℝ) : EReal) < a → ((7 / 2 : ℝ) : EReal) ≤ a := fun h => (lt_trans (by exact_mod_cast (by norm_num : (7 / 2 : ℝ) < 5)) h).le
  have h65 : ((7 / 2 : ℝ) : EReal) ≤ a → ((5 / 2 : ℝ) : EReal) < a := fun h => lt_of_lt_of_le (by exact_mod_cast (by norm_num : (5 / 2 : ℝ) < 7 / 2)) h
  have h54 : ((5 / 2 : ℝ) : EReal) < a → ((7 / 4 : ℝ) : EReal) ≤ a := fun h => (lt_trans (by exact_mod_cast (by norm_num : (7 / 4 : ℝ) < 5 / 2)) h).le
  have h43 : ((7 / 4 : ℝ) : EReal) ≤ a → ((5 / 4 : ℝ) : EReal) < a := fun h => lt_of_lt_of_le (by exact_mod_cast (by norm_num : (5 / 4 : ℝ) < 7 / 4)) h
  have h32 : ((5 / 4 : ℝ) : EReal) < a → ((3 / 4 : ℝ) : EReal) ≤ a := fun h => (lt_trans (by exact_mod_cast (by norm_num : (3 / 4 : ℝ) < 5 / 4)) h).le
  have h21 : ((3 / 4 : ℝ) : EReal) ≤ a → ((1 / 4 : ℝ) : EReal) < a := fun h => lt_of_lt_of_le (by exact_mod_cast (by norm_num : (1 / 4 : ℝ) < 3 / 4)) h
  unfold lad
  by_cases a7 : ((5 : ℝ) : EReal) < a
  · have a6 := h76 a7; have a5 := h65 a6; have a4 := h54 a5; have a3 := h43 a4; have a2 := h32 a3; have a1 := h21 a2; simp only [a7, a6, a5, a4, a3, a2, a1, if_true, if_false, true_iff, false_iff]; decide
  by_cases a6 : ((7 / 2 : ℝ) : EReal) ≤ a
  · have a5 := h65 a6; have a4 := h54 a5; have a3 := h43 a4; have a2 := h32 a3; have a1 := h21 a2; simp only [a7, a6, a5, a4, a3, a2, a1, if_true, if_false, true_iff, false_iff]; decide
  by_cases a5 : ((5 / 2 : ℝ) : EReal) < a
  · have a4 := h54 a5; have a3 := h43 a4; have a2 := h32 a3; have a1 := h21 a2; simp only [a7, a6, a5, a4, a3, a2, a1, if_true, if_false, true_iff, false_iff]; decide
  by_cases a4 : ((7 / 4 : ℝ) : EReal) ≤ a
  · have a3 := h43 a4; have a2 := h32 a3; have a1 := h21 a2; simp only [a7, a6, a5, a4, a3, a2, a1, if_true, if_false, true_iff, false_iff]; decide
  by_cases a3 : ((5 / 4 : ℝ) : EReal) < a
  · have a2 := h32 a3; have a1 := h21 a2; simp only [a7, a6, a5, a4, a3, a2, a1, if_true, if_false, true_iff, false_iff]; decide
  by_cases a2 : ((3 / 4 : ℝ) : EReal) ≤ a
  · have a1 := h21 a2; simp only [a7, a6, a5, a4, a3, a2, a1, if_true, if_false, true_iff, false_iff]; decide
  by_cases a1 : ((1 / 4 : ℝ) : EReal) < a
  · simp only [a7, a6, a5, a4, a3, a2, a1, if_true, if_false, true_iff, false_iff]; decide
  simp only [a7, a6, a5, a4, a3, a2, a1, if_true, if_false, true_iff, false_iff]; decide

/-- The magnitude of a clipped number passes the same thresholds. -/
theorem lad_clip (y : EReal) :
    lad (FloatOps.absf (F := Ideal) (φ := .f32) (min (max y ((-6 : ℝ) : EReal)) ((6 : ℝ) : EReal))) = lad (max y (-y)) := by
  have hlt : ∀ t : ℝ, 0 ≤ t → t < 6 → (((t : ℝ) : EReal) < max (min (max y ((-6 : ℝ) : EReal)) ((6 : ℝ) : EReal)) (-(min (max y ((-6 : ℝ) : EReal)) ((6 : ℝ) : EReal)))
      ↔ (t : EReal) < max y (-y)) := by
    intro t h0 h6
    have e6 : (t : EReal) < ((6 : ℝ) : EReal) := EReal.coe_lt_coe_iff.mpr h6
    have e7 : ((-6 : ℝ) : EReal) < -(t : EReal) := by rw [← EReal.coe_neg]; exact EReal.coe_lt_coe_iff.mpr (by linarith)
    have e8 : ¬ (t : EReal) < ((-6 : ℝ) : EReal) := by rw [not_lt]; exact EReal.coe_le_coe_iff.mpr (by linarith)
    have e9 : ¬ ((6 : ℝ) : EReal) < -(t : EReal) := by rw [not_lt, ← EReal.coe_neg]; exact EReal.coe_le_coe_iff.mpr (by linarith)
    rw [lt_max_iff, lt_max_iff, EReal.lt_neg_comm, EReal.lt_neg_comm (a := (t : EReal)) (b := y), lt_min_iff, lt_max_iff, min_lt_iff, max_lt_iff]
    simp only [e6, e7, e8, e9, and_true, or_false]
  have hle : ∀ t : ℝ, 0 < t → t < 6 → (((t : ℝ) : EReal) ≤ max (min (max y ((-6 : ℝ) : EReal)) ((6 : ℝ) : EReal)) (-(min (max y ((-6 : ℝ) : EReal)) ((6 : ℝ) : EReal)))
      ↔ (t : EReal) ≤ max y (-y)) := by
    intro t h0 h6
    have e6 : (t : EReal) ≤ ((6 : ℝ) : EReal) := EReal.coe_le_coe_iff.mpr h6.le
    have e7 : ((-6 : ℝ) : EReal) ≤ -(t : EReal) := by rw [← EReal.coe_neg]; exact EReal.coe_le_coe_iff.mpr (by linarith)
    have e8 : ¬ (t : EReal) ≤ ((-6 : ℝ) : EReal) := by rw [not_le]; exact EReal.coe_lt_coe_iff.mpr (by linarith)
    have e9 : ¬ ((6 : ℝ) : EReal) ≤ -(t : EReal) := by rw [not_le, ← EReal.coe_neg]; exact EReal.coe_lt_coe_iff.mpr (by linarith)
    rw [le_max_iff, le_max_iff, EReal.le_neg, EReal.le_neg (a := (t : EReal)) (b := y), le_min_iff, le_max_iff, min_le_iff, max_le_iff]
    simp only [e6, e7, e8, e9, and_true, or_false]
  show lad (max _ (-_)) = _
  unfold lad
  simp only [hlt _ (by norm_num : (0 : ℝ) ≤ 5) (by norm_num), hlt _ (by norm_num : (0 : ℝ) ≤ 5 / 2) (by norm_num),
    hlt _ (by norm_num : (0 : ℝ) ≤ 5 / 4) (by norm_num), hlt _ (by norm_num : (0 : ℝ) ≤ 1 / 4) (by norm_num),
    hle _ (by norm_num : (0 : ℝ) < 7 / 2) (by norm_num), hle _ (by norm_num : (0 : ℝ) < 7 / 4) (by norm_num),
    hle _ (by norm_num : (0 : ℝ) < 3 / 4) (by norm_num)]

theorem neg_clip (y : EReal) : min (max y ((-6 : ℝ) : EReal)) ((6 : ℝ) : EReal) < 0 ↔ y < 0 := by
  have e6 : ¬ ((6 : ℝ) : EReal) < 0 := by rw [not_lt]; exact_mod_cast (by norm_num : (0 : ℝ) ≤ 6)
  have e7 : ((-6 : ℝ) : EReal) < 0 := by exact_mod_cast (by norm_num : (-6 : ℝ) < 0)
  rw [min_lt_iff, max_lt_iff]; simp only [e6, e7, and_true, or_false]

/-- The table of the code's magnitudes. -/
def tab : Fin 8 → ℝ := ![0, 1 / 2, 1, 3 / 2, 2, 3, 4, 6]

/-- The code of a number: its sign in bit 3 unless it rounds to zero. -/
def nib (y : EReal) : ℕ := (lad (max y (-y))).val + if y < 0 ∧ lad (max y (-y)) ≠ 0 then 8 else 0
/-- The number the code stands for. -/
def dec (y : EReal) : EReal := if y < 0 then -((tab (lad (max y (-y))) : ℝ) : EReal) else ((tab (lad (max y (-y))) : ℝ) : EReal)

theorem nib_lt (y : EReal) : nib y < 16 := by
  unfold nib; have := (lad (max y (-y))).isLt; split <;> omega

/-- The code as the kernel first writes it, a zero's sign kept. -/
def nib0 (y : EReal) : ℕ := (lad (max y (-y))).val + if y < 0 then 8 else 0

theorem nib0_lt (y : EReal) : nib0 y < 16 := by
  unfold nib0; have := (lad (max y (-y))).isLt; split <;> omega

theorem unsign_nib0 (y : EReal) : Nibbles.unsign (nib0 y) = nib y := by
  unfold nib0 nib
  generalize lad (max y (-y)) = k
  by_cases h : y < 0 <;> simp only [h, true_and, false_and, if_true, if_false] <;> revert k <;> decide

/-- The block's scale, from its largest magnitude and the row's. -/
def bsS (A g : EReal) : EReal :=
  min (Ideal.div (Ideal.div (A * Ideal.ofBits .f32 0x3F800800#32) (Ideal.ofBits .f32 0x40C00000#32)) g) (Ideal.ofBits .f32 0x43E00000#32)
def denS (b g : EReal) : EReal := if b * g = 0 then 1 else b * g

theorem denS_ne (b g : EReal) : denS b g ≠ 0 := by unfold denS; split <;> simp_all

/-- Dividing by the scale after the reciprocal deviation is in, or bringing the reciprocal to the scale first. -/
theorem mul_div (u r b g : EReal) : u * Ideal.div r (denS b g) = Ideal.div (u * r) (denS b g) := by
  unfold Ideal.div; rw [if_neg (denS_ne b g), if_neg (denS_ne b g), mul_assoc]

end Cert.Nvfp4
-- ==== Proof.Quant.KPoint.lean ====
/- The chunk's functions one number at a time, over the reals: its codes, scales and decoded values are the four-bit
   code's, of the normalised values in their own channel order. -/
module

public import proofs.«01_k».proof.Proof.Quant.Vocab
public import proofs.«01_k».proof.Proof.Quant.Spec
public import Idealize.ShloMosaic.Lib.Pointwise
public import Idealize.ShloMosaic.Lib.BitcastPair
public import Idealize.ShloMosaic.Lib.Bf16Pair

@[expose] public section

set_option maxRecDepth 16384

noncomputable section

namespace Cert.KernelIdeal.Quant

open Idealize.ShloMosaic Cert.KernelIdeal Cert.KernelIdeal.Gen Cert.Nvfp4

abbrev I := Idealize.ShloMosaic.Ideal

/-- The row of the chunk's array that holds channel `d`. -/
def perm (d : Fin 256) : Fin 256 := ⟨64 * (d.val % 4) + 32 * (d.val / 16 % 2) + 8 * (d.val / 4 % 4) + d.val / 32, by omega⟩
/-- Channel `k` of block `B`. -/
def chan (B : Fin 16) (k : Fin 16) : Fin 256 := ⟨16 * B.val + k.val, by omega⟩
/-- Row `s` of group `e`, of eight. -/
def r64 (e s : Fin 8) : Fin 64 := ⟨e.val * 8 + s.val, by omega⟩
/-- The channel that array `q` holds in row `s` of group `e`. -/
def ch (q : Fin 4) (e s : Fin 8) : Fin 256 := ⟨32 * s.val + 4 * e.val + q.val, by omega⟩
/-- Row `i` of group `s`, of sixteen. -/
def r128 (s : Fin 8) (i : Fin 16) : Fin 128 := ⟨16 * s.val + i.val, by omega⟩
/-- Row `s` of group `e` of array `q`. -/
def r256 (q : Fin 4) (e s : Fin 8) : Fin 256 := ⟨64 * q.val + (e.val * 8 + s.val), by omega⟩

/-- A magnitude. -/
abbrev mag (x : EReal) : EReal := max x (-x)

theorem max_mul_pos {r : EReal} (hr : 0 < r) (a b : EReal) : max a b * r = max (a * r) (b * r) :=
  Monotone.map_max (f := fun x => x * r) (fun _ _ h => mul_le_mul_of_nonneg_right h hr.le)

theorem absf_mul_pos {r : EReal} (hr : 0 < r) {x y : EReal} (h : x = y) :
    FloatOps.absf (F := I) (φ := .f32) x * r = mag (y * r) := by
  subst h; show max x (-x) * r = _
  rw [max_mul_pos hr, EReal.neg_mul]

theorem max16 (f : Fin 16 → EReal) :
    max (max (max (max (max (max (max (max (max (max (max (max (max (max (max (f 0) (f 4)) (f 8)) (f 12)) (f 1)) (f 5))
      (f 9)) (f 13)) (f 2)) (f 6)) (f 10)) (f 14)) (f 3)) (f 7)) (f 11)) (f 15) = Finset.univ.sup f := by
  apply le_antisymm
  · simp only [max_le_iff]
    repeat' apply And.intro
    all_goals exact Finset.le_sup (f := f) (Finset.mem_univ _)
  · refine Finset.sup_le fun k _ => ?_
    fin_cases k <;> simp [le_max_iff]

section Half
variable (u : FVec I S256x128 .f32) (rs : FVec I S1x128 .f32) (g : FVec I S8x128 .f32)

/-- The normalised value of channel `d` at token `l`. -/
def hS (l : Fin 128) (d : Fin 256) : EReal := u (ix2 (perm d) l) * rs (ix2 0 l)
/-- The largest magnitude of block `B`. -/
def aS (l : Fin 128) (B : Fin 16) : EReal := Finset.univ.sup fun k => mag (hS u rs l (chan B k))

theorem bm0_apply (s : Fin 8) (l : Fin 128) (hr : 0 < rs (ix2 0 l)) :
    bm0 u (ix2 s l) * rs (ix2 0 l) = aS u rs l ⟨2 * s.val, by omega⟩ := by
  unfold aS
  rw [← max16]
  pointwise [bm0, mx, rb]
  simp only [max_mul_pos hr]
  repeat' refine congrArg₂ max ?_ ?_
  all_goals exact absf_mul_pos hr (congrArg u (congrArg (ix2 · l) (Fin.ext (by simp [perm, chan]; omega))))

theorem bm1_apply (s : Fin 8) (l : Fin 128) (hr : 0 < rs (ix2 0 l)) :
    bm1 u (ix2 s l) * rs (ix2 0 l) = aS u rs l ⟨2 * s.val + 1, by omega⟩ := by
  unfold aS
  rw [← max16]
  pointwise [bm1, mx, rb]
  simp only [max_mul_pos hr]
  repeat' refine congrArg₂ max ?_ ?_
  all_goals exact absf_mul_pos hr (congrArg u (congrArg (ix2 · l) (Fin.ext (by simp [perm, chan]; omega))))

theorem word_apply (n : IVec S64x128 32) (i : Fin 8) (l : Fin 128) :
    wordOf n (ix2 i l) = Nibbles.word fun s => n (ix2 (r64 i s) l) := by
  have hs : ∀ i s : Fin 8, IntOp.muli (4#32) (IntOp.andi (BitVec.ofNat 32 (i.val * 8 + s.val)) 7#32) = BitVec.ofNat 32 (4 * s.val) := by decide
  unfold Nibbles.word
  pointwise [wordOf]
  congr 1
  funext s
  rw [hs i s]
  have h4 : (BitVec.ofNat 32 (4 * s.val)).toNat = 4 * s.val := by rw [BitVec.toNat_ofNat]; omega
  unfold IntOp.shli
  rw [if_pos (by rw [h4]; omega), BitVec.shiftLeft_eq', h4]
  rfl

theorem nz_apply (w : IVec S8x128 32) (i : Fin 8) (l : Fin 128) : nzOf w (ix2 i l) = Nibbles.nz (w (ix2 i l)) := rfl

theorem shr_apply (w : IVec S8x128 32) (k : ℕ) (hk : k < 32) (i : Fin 8) (l : Fin 128) :
    sh w (BitVec.ofNat 32 k) (ix2 i l) = w (ix2 i l) >>> k := by
  have h4 : (BitVec.ofNat 32 k).toNat = k := by rw [BitVec.toNat_ofNat]; omega
  show IntOp.shrui .vector (w (ix2 i l)) (BitVec.ofNat 32 k) = _
  unfold IntOp.shrui
  rw [if_pos (by rw [h4]; omega), BitVec.ushiftRight_eq', h4]

theorem pair_apply (e o : IVec S8x128 32) (i : Fin 8) (l : Fin 128) :
    pairN e o (ix2 i l) = Nibbles.pair (e (ix2 i l)) (o (ix2 i l)) := by
  show IntOp.ori _ (IntOp.shli .vector _ 4#32) = _
  unfold IntOp.shli
  rw [if_pos (by decide)]
  rfl

theorem row16_apply (a b : IVec S8x128 32) (i : Fin 16) (l : Fin 128) :
    row16 a b (ix2 i l) = if i.val % 2 = 0 then (a (ix2 (⟨i.val / 2, by omega⟩ : Fin 8) l)).setWidth 16 else (b (ix2 (⟨i.val / 2, by omega⟩ : Fin 8) l)).setWidth 16 := by
  unfold row16
  rw [bitcast_32_16, packElementwiseI16_apply]
  have e : ∀ p, (bitcasts_S8x128_w32_S16x128_w16).srcIdx (ix2 i l) (Shape.row S16x128 (ix2 i l) / 2) p = ix2 (⟨i.val / 2, by omega⟩ : Fin 8) l := by
    intro p; funext a; apply Fin.ext
    match a with
    | ⟨0, _⟩ => rfl
    | ⟨1, _⟩ => rfl
  rw [e]
  have er : Shape.row S16x128 (ix2 i l) = i.val := rfl
  rw [er]
  apply BitVec.eq_of_getLsbD_eq; intro k hk
  rw [BitVec.getLsbD_extractLsb', BitVec.getLsbD_append]
  rcases Nat.mod_two_eq_zero_or_one i.val with h | h <;> rw [h] <;> simp [hk]

theorem catRows_apply (a b c d : IVec S8x128 32) (k : Fin 4) (p : Fin 2) (i : Fin 16) (l : Fin 128) :
    (catRows a b c d (ix2 (r128 ⟨2 * k.val + p.val, by omega⟩ i) l)).setWidth 8
      = ((if i.val % 2 = 0 then (if p = 0 then a else b) else (if p = 0 then c else d)) (ix2 (⟨i.val / 2, by omega⟩ : Fin 8) l) >>> (8 * k.val)).setWidth 8 := by
  have key : catRows a b c d (ix2 (r128 ⟨2 * k.val + p.val, by omega⟩ i) l) =
      (row16 (sh (if p = 0 then a else b) (BitVec.ofNat 32 (8 * k.val))) (sh (if p = 0 then c else d) (BitVec.ofNat 32 (8 * k.val)))) (ix2 i l) := by
    have hi := i.isLt
    fin_cases k <;> fin_cases p <;> pointwise [catRows, r128]
    all_goals
      repeat rw [dif_neg (by omega)]
      try rw [dif_pos (by omega)]
      exact congrArg _ (congrArg (ix2 · l) (Fin.ext (by simp; try omega)))
  rw [key, row16_apply, shr_apply _ _ (by omega), shr_apply _ _ (by omega)]
  split <;> simp

theorem codes_apply (w0 w1 w2 w3 : IVec S8x128 32) (k : Fin 4) (p : Fin 2) (i : Fin 16) (l : Fin 128) :
    codesOf w0 w1 w2 w3 (ix3 0 l (r128 ⟨2 * k.val + p.val, by omega⟩ i))
      = BitVec.ofNat 8 (((if i.val % 2 = 0 then w0 else w2) (ix2 (⟨i.val / 2, by omega⟩ : Fin 8) l)).toNat / 16 ^ (2 * k.val + p.val) % 16
        + 16 * (((if i.val % 2 = 0 then w1 else w3) (ix2 (⟨i.val / 2, by omega⟩ : Fin 8) l)).toNat / 16 ^ (2 * k.val + p.val) % 16)) := by
  rw [← Nibbles.byte_of_pair]
  have e : codesOf w0 w1 w2 w3 (ix3 0 l (r128 ⟨2 * k.val + p.val, by omega⟩ i))
      = (catRows (pairN w0 w1) (pairN (sh w0 4#32) (sh w1 4#32)) (pairN w2 w3) (pairN (sh w2 4#32) (sh w3 4#32))
        (ix2 (r128 ⟨2 * k.val + p.val, by omega⟩ i) l)).setWidth 8 := by
    pointwise [codesOf]
  rw [e, catRows_apply]
  congr 2
  have h4 : ∀ (w : IVec S8x128 32) (j : Fin 8), sh w 4#32 (ix2 j l) = w (ix2 j l) >>> 4 := fun w j => shr_apply w 4 (by omega) j l
  rcases Nat.mod_two_eq_zero_or_one i.val with h | h <;> simp only [h, if_true, one_ne_zero, if_false] <;>
    fin_cases p <;> simp [pair_apply, h4]

/-- The four values to encode, from the eight groups of rows they are made of. -/
theorem yCat_apply (a : Fin 8 → FVec I S8x128 .f32) (r0 r1 : FVec I S8x128 .f32) (e s : Fin 8) (l : Fin 128) :
    yCat (a 0) (a 1) (a 2) (a 3) (a 4) (a 5) (a 6) (a 7) r0 r1 (ix2 (r64 e s) l)
      = a e (ix2 s l) * (if e.val < 4 then r0 else r1) (ix2 s l) := by
  have hi := s.isLt
  fin_cases e <;> pointwise [yCat, r64]
  all_goals
    repeat rw [dif_neg (by omega)]
    try rw [dif_pos (by omega)]
    exact congrArg₂ (· * ·) (congrArg _ (congrArg (ix2 · l) (Fin.ext (by simp; try omega)))) (congrArg _ (congrArg (ix2 · l) (Fin.ext (by simp; try omega))))

theorem slc : ∀ (q : Fin 4) (e : Fin 8), S256x128.Slices ![64 * q.val + 8 * e.val, 0] S8x128 := by decide

theorem yq_eq (q : Fin 4) : yq u rs g q = clip (yCat (rb u (64 * q.val + 8 * 0) (slc q 0)) (rb u (64 * q.val + 8 * 1) (slc q 1))
    (rb u (64 * q.val + 8 * 2) (slc q 2)) (rb u (64 * q.val + 8 * 3) (slc q 3)) (rb u (64 * q.val + 8 * 4) (slc q 4))
    (rb u (64 * q.val + 8 * 5) (slc q 5)) (rb u (64 * q.val + 8 * 6) (slc q 6)) (rb u (64 * q.val + 8 * 7) (slc q 7))
    (rA u rs g) (rB u rs g)) := by
  fin_cases q <;> rfl

theorem clip_apply (y : FVec I S64x128 .f32) (j : Fin 64) (l : Fin 128) :
    clip y (ix2 j l) = min (max (y (ix2 j l)) ((-6 : ℝ) : EReal)) ((6 : ℝ) : EReal) := by
  rw [← c6, ← cm6]; pointwise [clip]

variable (G : EReal)

/-- Block `B`'s scale at token `l`. -/
def bV (l : Fin 128) (B : Fin 16) : EReal := bsS (aS u rs l B) G
/-- What channel `d` encodes at token `l`. -/
def yV (l : Fin 128) (d : Fin 256) : EReal := Ideal.div (hS u rs l d) (denS (bV u rs G l ⟨d.val / 16, by omega⟩) G)

theorem bsA_apply (hg : ∀ s l, g (ix2 s l) = G) (s : Fin 8) (l : Fin 128) (hr : 0 < rs (ix2 0 l)) :
    bsA u rs g (ix2 s l) = bV u rs G l ⟨2 * s.val, by omega⟩ := by
  unfold bV bsS
  rw [← bm0_apply u rs s l hr, ← hg s l]
  pointwise [bsA, bsOf]

theorem bsB_apply (hg : ∀ s l, g (ix2 s l) = G) (s : Fin 8) (l : Fin 128) (hr : 0 < rs (ix2 0 l)) :
    bsB u rs g (ix2 s l) = bV u rs G l ⟨2 * s.val + 1, by omega⟩ := by
  unfold bV bsS
  rw [← bm1_apply u rs s l hr, ← hg s l]
  pointwise [bsB, bsOf]

theorem rr_apply (b : FVec I S8x128 .f32) (hg : ∀ s l, g (ix2 s l) = G) (s : Fin 8) (l : Fin 128) :
    rrOf b rs g (ix2 s l) = Ideal.div (rs (ix2 0 l)) (denS (b (ix2 s l)) G) := by
  unfold denS
  rw [← hg s l]
  pointwise [rrOf]

theorem yq_apply (hg : ∀ s l, g (ix2 s l) = G) (q : Fin 4) (e s : Fin 8) (l : Fin 128) (hr : 0 < rs (ix2 0 l)) :
    yq u rs g q (ix2 (r64 e s) l) = min (max (yV u rs G l (ch q e s)) ((-6 : ℝ) : EReal)) ((6 : ℝ) : EReal) := by
  rw [yq_eq, clip_apply]
  have hy := yCat_apply (fun e => rb u (64 * q.val + 8 * e.val) (slc q e)) (rA u rs g) (rB u rs g) e s l
  have key : rb u (64 * q.val + 8 * e.val) (slc q e) (ix2 s l) * (if e.val < 4 then rA u rs g else rB u rs g) (ix2 s l) = yV u rs G l (ch q e s) := by
    have h1 : rb u (64 * q.val + 8 * e.val) (slc q e) (ix2 s l) = u (ix2 (perm (ch q e s)) l) := by
      pointwise [rb]
      exact congrArg u (congrArg (ix2 · l) (Fin.ext (by simp only [perm, ch]; omega)))
    rw [h1]
    unfold yV hS
    rw [← mul_div]
    congr 1
    by_cases h : e.val < 4
    · rw [if_pos h]; unfold rA; rw [rr_apply rs g G _ hg, bsA_apply u rs g G hg s l hr]
      congr 4; simp only [ch]; omega
    · rw [if_neg h]; unfold rB; rw [rr_apply rs g G _ hg, bsB_apply u rs g G hg s l hr]
      congr 4; simp only [ch]; omega
  rw [← key, ← hy]
  rfl

theorem m_apply (a : FVec I S64x128 .f32) (j : S64x128.Idx) : mOf a j = BitVec.ofNat 32 (lad (a j)).val := by
  obtain ⟨h1, h2, h3, h4, h5, h6, h7⟩ := lad_spec (a j)
  pointwise [mOf, gtB, geB]
  simp only [c025, c075, c125, c175, c25, c35, c5, h1, h2, h3, h4, h5, h6, h7]
  generalize lad (a j) = k
  revert k; decide

theorem code_apply (y : FVec I S64x128 .f32) (j : S64x128.Idx) (Y : EReal)
    (h : y j = min (max Y ((-6 : ℝ) : EReal)) ((6 : ℝ) : EReal)) : (codeOf y j).toNat = nib0 Y := by
  have e : codeOf y j = if y j < 0 then IntOp.ori (mOf (absf y) j) 8#32 else mOf (absf y) j := by
    idx_vars j
    pointwise [codeOf, negB]
  have hm : mOf (absf y) j = BitVec.ofNat 32 (lad (max Y (-Y))).val := by
    rw [m_apply, ← lad_clip, ← h]; rfl
  rw [e, hm]
  unfold nib0
  have hn : y j < 0 ↔ Y < 0 := by rw [h]; exact neg_clip Y
  by_cases h0 : Y < 0
  · rw [if_pos (hn.mpr h0), if_pos h0]; generalize lad (max Y (-Y)) = k; revert k; decide
  · rw [if_neg (fun hh => h0 (hn.mp hh)), if_neg h0]; generalize lad (max Y (-Y)) = k; revert k; decide

end Half
end Cert.KernelIdeal.Quant
-- ==== Proof.Quant.Host2.lean ====
/- The host's arrays at an index, over the extended reals. -/
module

public import proofs.«01_k».proof.Proof.Quant.Host
public import proofs.«01_k».proof.Proof.Quant.KPoint

@[expose] public section

set_option maxRecDepth 16384

noncomputable section

namespace Cert.KernelIdeal.Quant
open Idealize.ShloMosaic Idealize.ShloMosaic.TcCoe Idealize.SL.Sem Cert.KernelIdeal Cert.KernelIdeal.Gen

/-- The channel a row of the permuted order holds. -/
def chR (R : Fin 3072) : Fin 3072 :=
  ⟨R.val / 256 * 256 + (R.val % 8 * 32 + R.val / 32 % 2 * 16 + R.val / 8 % 4 * 4 + R.val / 64 % 4), by omega⟩
/-- The output column a row of the kernel's product holds. -/
def outK (p : Fin 64) : Fin 64 := ⟨p.val / 16 % 2 * 32 + p.val / 32 * 16 + p.val % 16, by omega⟩

theorem lit_order : ∀ R : Fin 3072, lit0 R = BitVec.ofNat 32 (R.val % 8 * 32 + R.val / 32 % 2 * 16 + R.val / 8 % 4 * 4 + R.val / 64 % 4) := by
  decide +kernel

theorem rows_apply {ft : FTy} (x : FVec I S6x3072 ft) (r : Fin 6) (R : Fin 3072) : rowsH x (ix2 r R) = x (ix2 r (chR R)) := by
  pointwise [rowsH]
  exact congrArg x (congrArg (ix2 r) (Fin.ext (by simp only [chR]; omega)))

theorem wt_apply (w : FVec I S3072x64 .fp8e4m3) (p : Fin 64) (R : Fin 3072) : wtH w (ix2 p R) = w (ix2 (chR R) (outK p)) := by
  pointwise [wtH]
  exact congrArg w (congrArg₂ ix2 (Fin.ext (by simp only [chR]; omega)) rfl)

theorem mb_apply (x : FVec I S6x3072 .f32) (r : Fin 6) (R : Fin 3072) (l : Fin 128) : mbH x (ix3 r R l) = x (ix2 r R) := by
  pointwise [mbH]

theorem a_apply (sc : FVec I S6x3072 .f32) (i : S6x3072.Idx) : aH sc i = 1 + sc i := by
  pointwise [aH, s1H]

theorem div_real (a b : ℝ) (hb : b ≠ 0) : Ideal.div (a : EReal) (b : EReal) = ((a / b : ℝ) : EReal) := by
  have : (b : EReal) ≠ 0 := by exact_mod_cast hb
  unfold Ideal.div
  rw [if_neg this, div_eq_mul_inv, EReal.coe_mul, EReal.coe_inv]

theorem m_one (sc : FVec I S6x3072 .f32) (i : S6x3072.Idx) (h : ∃ v : ℝ, sc i = (v : EReal)) : mH sc i = 1 := by
  pointwise [mH, zH, oneH, s1H, aH]
  obtain ⟨v, hv⟩ := h
  have e : 1 + sc i = ((1 + v : ℝ) : EReal) := by rw [hv]; push_cast; rfl
  rw [e]
  by_cases z : (1 + v : ℝ) = 0
  · rw [if_pos (by exact_mod_cast z)]
  · have z' : ((1 + v : ℝ) : EReal) ≠ 0 := by exact_mod_cast z
    rw [if_neg z', if_neg z', div_real _ _ z, div_self z]
    rfl

theorem q_apply (sh sc : FVec I S6x3072 .f32) (i : S6x3072.Idx) (h : ∃ v : ℝ, sc i = (v : EReal)) (h' : ∃ v : ℝ, sh i = (v : EReal)) :
    qH sh sc i = sh i := by
  obtain ⟨v, hv⟩ := h'
  have e : qH sh sc i = Ideal.div (sh i) (mH sc i) := rfl
  rw [e, m_one sc i h, hv]
  have := div_real v 1 one_ne_zero
  rwa [div_one] at this

theorem sel_apply (a : FVec I S6x3072 .f32) (r : Fin 6) (R : Fin 3072) (k : Fin 256) :
    selH ordH a (ix3 r R k) = if k.val = (chR R).val % 256 then a (ix2 r R) else 0 := by
  pointwise [selH, hitH, colH, ordH]
  have e0 : S3072.rowMajor (ix1 R) = R := Fin.ext (Shape.rowMajor_val_one (ix1 R))
  have e : lit0 (S3072.rowMajor (ix1 R)) = BitVec.ofNat 32 ((chR R).val % 256) := by
    rw [e0, lit_order]; congr 1; simp only [chR]; omega
  rw [e]
  by_cases h : k.val = (chR R).val % 256
  · rw [if_pos h, h]; simp [IntOp.cmpi, Scalar.select]
  · rw [if_neg h]
    have : BitVec.ofNat 32 ((chR R).val % 256) ≠ BitVec.ofNat 32 k.val := by
      intro e; have := congrArg BitVec.toNat e; simp at this; omega
    have e2 : (BitVec.ofNat 32 ((chR R).val % 256) == BitVec.ofNat 32 k.val) = false := beq_eq_false_iff_ne.mpr this
    simp only [IntOp.cmpi, e2]
    rfl

/-- The coefficients of the mean and the deviation in a row's correction, when the roundings are exact. -/
def cofV (a q : EReal) (k : ℕ) : EReal := if k < 3 then -a else if k = 3 ∨ k = 6 ∨ k = 8 then q else 0

theorem cof_apply (a q : FVec I S6x3072 .f32) (r : Fin 6) (R : Fin 3072) (k : Fin 9) (hq : q (ix2 r R) - q (ix2 r R) = 0) :
    cofH a q (ix3 r R k) = cofV (a (ix2 r R)) (q (ix2 r R)) k.val := by
  pointwise [cofH, colH, naH, q1H, q2H, q3H, e1H]
  rw [hq]
  fin_cases k <;> simp [cofV]

theorem la_sel (k9 : FVec I S6x3072x9 .bf16) (a : FVec I S6x3072 .f32) (r : Fin 6) (R : Fin 3072) (k : Fin 384) (hk : k.val < 256) :
    laH ordH (constantI S_ 32 0#32) a k9 (ix3 r R k) = if k.val = (chR R).val % 256 then a (ix2 r R) else 0 := by
  pointwise [laH, padH]
  rw [dif_pos hk]
  exact sel_apply a r R _

theorem la_cof (a q : FVec I S6x3072 .f32) (r : Fin 6) (R : Fin 3072) (k : Fin 384) (j : ℕ) (hk : k.val = 256 + j)
    (hq : q (ix2 r R) - q (ix2 r R) = 0) :
    laH ordH (constantI S_ 32 0#32) a (cofH a q) (ix3 r R k) = cofV (a (ix2 r R)) (q (ix2 r R)) j := by
  pointwise [laH, padH]
  rw [dif_neg (by omega)]
  by_cases h : k.val - 256 < 9
  · rw [dif_pos h, cof_apply _ _ _ _ _ hq]
    congr 1
    show k.val - 256 = j
    omega
  · rw [dif_neg h]
    have : cofV (a (ix2 r R)) (q (ix2 r R)) j = 0 := by
      unfold cofV; rw [if_neg (by omega), if_neg (by omega)]
    rw [this]
    simp [FloatOps.sitofp]

end Cert.KernelIdeal.Quant
-- ==== Proof.Quant.UPoint.lean ====
/- The values a chunk quantises, over the extended reals: the selection matrix picks a channel, the correction subtracts
   the mean and adds the shift, and the product with the reciprocal deviation is the modulated layer norm. -/
module

public import proofs.«01_k».proof.Proof.Quant.Host2

@[expose] public section

set_option maxRecDepth 16384

noncomputable section

namespace Cert.KernelIdeal.Quant
open Idealize.ShloMosaic Idealize.ShloMosaic.TcCoe Idealize.SL.Sem Cert.KernelIdeal Cert.KernelIdeal.Gen

/-- Row `i` of chunk `c`. -/
def rowC (c : Fin 12) (i : Fin 256) : Fin 3072 := ⟨256 * c.val + i.val, by omega⟩
/-- Token `l` of half `h`. -/
def tokH (h : Fin 2) (l : Fin 128) : Fin 256 := ⟨128 * h.val + l.val, by omega⟩
def lane (j : Fin 16) : Fin 384 := ⟨256 + j.val, by omega⟩
def sel (k : Fin 256) : Fin 384 := ⟨k.val, by omega⟩

section
variable (x0 : Vec I S1x256x3072 .bf16) (x1 : Vec I S1x3072x384 .bf16) (x2 : Vec I S1x3072x128 .f32) (x3 : Vec I S1x8x256 .f32) (x4 : Vec I S1x8x128 .f32) (x5 : Vec I S64x3072 .fp8e4m3)

theorem ld_la (c : Fin 12) (i k : Fin 256) : View.ld x1 (laR c) (ix3 0 i k) = x1 (ix3 0 (rowC c i) (sel k)) := by
  pointwise []
  rfl
theorem ld_lc (c : Fin 12) (i : Fin 256) (j : Fin 16) : View.ld x1 (lcR c) (ix3 0 i j) = x1 (ix3 0 (rowC c i) (lane j)) := by
  pointwise []
  rfl
theorem ld_x (c : Fin 12) (t k : Fin 256) : View.ld x0 (xR c) (ix3 0 t k) = x0 (ix3 0 t (rowC c k)) := by
  pointwise []
  rfl
theorem ld_m (c : Fin 12) (i : Fin 256) (l : Fin 128) : View.ld x2 (mR c) (ix3 0 i l) = x2 (ix3 0 (rowC c i) l) := by
  pointwise []
  rfl
theorem ld_w (c : Fin 12) (p : Fin 64) (i : Fin 256) : View.ld x5 (wR c) (ix2 p i) = x5 (ix2 p (rowC c i)) := by
  pointwise []
  rfl
theorem ld_mu (t : Fin 256) : View.ld x3 r0_0 (ix3 0 0 t) = x3 (ix3 0 0 t) := by
  pointwise []
theorem ld_std (t : Fin 256) : View.ld x3 r0_1 (ix3 0 0 t) = x3 (ix3 0 1 t) := by
  pointwise []
theorem gC_apply (s : Fin 8) (l : Fin 128) : gC x4 (ix2 s l) = x4 (ix3 0 s l) := by
  pointwise [gC, gOf]
theorem rsC_apply (h : Fin 2) (l : Fin 128) : rsC x3 h (ix2 0 l) = x3 (ix3 0 2 (tokH h l)) := by
  fin_cases h
  · pointwise [rsC, rsL, rsOf]
    exact congrArg x3 (congrArg (ix3 0 2) (Fin.ext (by simp [tokH])))
  · pointwise [rsC, rsR, rsOf]
    rfl

/-- The rows the coefficients meet, when the roundings of the mean and of the deviation are exact. -/
def auxV (mu std : EReal) (j : ℕ) : EReal := if j = 0 then mu else if j = 3 ∨ j = 4 ∨ j = 5 then std else 0

theorem aux_apply (mu std : Vec I S1x1x256 .f32) (t : Fin 256) (j : Fin 16) (hm : mu (ix3 0 0 t) - mu (ix3 0 0 t) = 0)
    (hs : std (ix3 0 0 t) - std (ix3 0 0 t) = 0) : auxOf mu std (ix2 j t) = auxV (mu (ix3 0 0 t)) (std (ix3 0 0 t)) j.val := by
  pointwise [auxOf]
  rw [hm, hs]
  fin_cases j <;> simp [auxV]

theorem wFull_apply (aux : FVec I S16x256 .bf16) (la x : Vec I S1x256x256 .bf16) (lc : Vec I S1x256x16 .bf16) (i t : Fin 256) :
    wFull aux la x lc (ix2 i t) = ∑ k, la (ix3 0 i k) * x (ix3 0 t k) + ∑ j, lc (ix3 0 i j) * aux (ix2 j t) := by
  pointwise [wFull]

theorem uC_eq (c : Fin 12) (h : Fin 2) (i : Fin 256) (l : Fin 128) :
    uC x0 x1 x2 x3 c h (ix2 i l) = wC x0 x1 x3 c (ix2 i (tokH h l)) * x2 (ix3 0 (rowC c i) l) := by
  rw [← ld_m x2]
  fin_cases h
  · pointwise [uC, uL]
    exact congrArg (· * _) (congrArg (wC x0 x1 x3 c) (congrArg (ix2 i) (Fin.ext (by simp [tokH]))))
  · pointwise [uC, uR]
    rfl

theorem cof_sum (α κ μ σ : ℝ) : ∑ j : Fin 16, cofV (α : EReal) κ j.val * auxV (μ : EReal) σ j.val = ((-α * μ + κ * σ : ℝ) : EReal) := by
  simp [Fin.sum_univ_succ, cofV, auxV]

/-- A row of a chunk before the product with the reciprocal deviation. -/
theorem uC_apply (c : Fin 12) (h : Fin 2) (i : Fin 256) (l : Fin 128) (α κ ξ μ σ : ℝ) (C : Fin 3072)
    (hC : rowC c ⟨C.val % 256, Nat.mod_lt _ (by decide)⟩ = C)
    (h1 : ∀ k : Fin 256, x1 (ix3 0 (rowC c i) (sel k)) = if k.val = C.val % 256 then (α : EReal) else 0)
    (h2 : ∀ j : Fin 16, x1 (ix3 0 (rowC c i) (lane j)) = cofV α κ j.val)
    (h3 : x2 (ix3 0 (rowC c i) l) = (1 : EReal)) (hx : x0 (ix3 0 (tokH h l) C) = (ξ : EReal))
    (hm : x3 (ix3 0 0 (tokH h l)) = (μ : EReal)) (hs : x3 (ix3 0 1 (tokH h l)) = (σ : EReal)) :
    uC x0 x1 x2 x3 c h (ix2 i l) = ((α * ξ + (-α * μ + κ * σ) : ℝ) : EReal) := by
  have z : ∀ r : ℝ, (r : EReal) - r = 0 := fun r => by rw [← EReal.coe_sub, sub_self]; rfl
  rw [uC_eq, h3, mul_one]
  unfold wC
  rw [wFull_apply]
  have e1 : ∑ k, View.ld x1 (laR c) (ix3 0 i k) * View.ld x0 (xR c) (ix3 0 (tokH h l) k) = ((α * ξ : ℝ) : EReal) := by
    have : ∀ k : Fin 256, View.ld x1 (laR c) (ix3 0 i k) * View.ld x0 (xR c) (ix3 0 (tokH h l) k)
        = if k = ⟨C.val % 256, Nat.mod_lt _ (by decide)⟩ then ((α * ξ : ℝ) : EReal) else 0 := by
      intro k
      rw [ld_la, ld_x, h1]
      by_cases e : k.val = C.val % 256
      · have e' : k = ⟨C.val % 256, Nat.mod_lt _ (by decide)⟩ := Fin.ext e
        rw [if_pos e, if_pos e', e', hC, hx, EReal.coe_mul]
      · rw [if_neg e, if_neg (fun h => e (congrArg Fin.val h)), zero_mul]
    rw [Finset.sum_congr rfl fun k _ => this k, Finset.sum_ite_eq' Finset.univ]
    simp
  have e2 : ∑ j, View.ld x1 (lcR c) (ix3 0 i j) * auxOf (View.ld x3 r0_0) (View.ld x3 r0_1) (ix2 j (tokH h l))
      = ((-α * μ + κ * σ : ℝ) : EReal) := by
    rw [← cof_sum]
    refine Finset.sum_congr rfl fun j _ => ?_
    rw [ld_lc, h2, aux_apply _ _ _ _ (by rw [ld_mu, hm]; exact z μ) (by rw [ld_std, hs]; exact z σ), ld_mu, ld_std, hm, hs]
  rw [e1, e2, ← EReal.coe_add]

/-- The channel of a chunk with a given number. -/
theorem chR_perm : ∀ (c : Fin 12) (d : Fin 256), chR (rowC c (perm d)) = rowC c d := by decide +kernel

theorem hS_apply (c : Fin 12) (h : Fin 2) (d : Fin 256) (l : Fin 128) (α κ ξ μ σ ρ : ℝ) (hρ : σ * ρ = 1)
    (h1 : ∀ k : Fin 256, x1 (ix3 0 (rowC c (perm d)) (sel k)) = if k.val = (rowC c d).val % 256 then (α : EReal) else 0)
    (h2 : ∀ j : Fin 16, x1 (ix3 0 (rowC c (perm d)) (lane j)) = cofV α κ j.val)
    (h3 : x2 (ix3 0 (rowC c (perm d)) l) = (1 : EReal)) (hx : x0 (ix3 0 (tokH h l) (rowC c d)) = (ξ : EReal))
    (hm : x3 (ix3 0 0 (tokH h l)) = (μ : EReal)) (hs : x3 (ix3 0 1 (tokH h l)) = (σ : EReal)) (hr : x3 (ix3 0 2 (tokH h l)) = (ρ : EReal)) :
    hS (uC x0 x1 x2 x3 c h) (rsC x3 h) l d = ((ξ : EReal) - μ) * ρ * α + κ := by
  have hC : rowC c ⟨(rowC c d).val % 256, Nat.mod_lt _ (by decide)⟩ = rowC c d := by
    apply Fin.ext; simp only [rowC]; omega
  unfold hS
  rw [uC_apply x0 x1 x2 x3 c h (perm d) l α κ ξ μ σ (rowC c d) hC h1 h2 h3 hx hm hs, rsC_apply, hr, ← EReal.coe_mul]
  have : (α * ξ + (-α * μ + κ * σ)) * ρ = (ξ - μ) * ρ * α + κ := by
    linear_combination κ * hρ
  rw [this]
  push_cast
  rfl

theorem pC_apply (c : Fin 12) (p : Fin 64) (h : Fin 2) (l : Fin 128) :
    pC x0 x1 x2 x3 x4 x5 c (ix2 p (tokH h l)) = ∑ i : Fin 256, x5 (ix2 p (rowC c i)) * vC x0 x1 x2 x3 x4 c h (ix2 i l) := by
  have e : ∀ i, x5 (ix2 p (rowC c i)) = View.ld x5 (wR c) (ix2 p i) := fun i => (ld_w x5 c p i).symm
  simp only [e]
  pointwise [pC, partP]
  refine Finset.sum_congr rfl fun i _ => ?_
  fin_cases h
  · have h0 : (tokH 0 l).val < 128 := by simp [tokH]
    refine congrArg (x5 (ix2 p (rowC c i)) * ·) ((dif_pos h0).trans ?_)
    exact congrArg (vC x0 x1 x2 x3 x4 c 0) (congrArg (ix2 i) (Fin.ext (by simp [tokH])))
  · have h1 : ¬ (tokH 1 l).val < 128 := by simp [tokH]
    refine congrArg (x5 (ix2 p (rowC c i)) * ·) ((dif_neg h1).trans ?_)
    exact congrArg (vC x0 x1 x2 x3 x4 c 1) (congrArg (ix2 i) (Fin.ext (by simp [tokH])))
end
end Cert.KernelIdeal.Quant
-- ==== Proof.Quant.KPoint2.lean ====
/- A chunk's half as a whole, one number at a time: its bytes, its scales and its decoded values. -/
module

public import proofs.«01_k».proof.Proof.Quant.KPoint

@[expose] public section

set_option maxRecDepth 16384

noncomputable section

namespace Cert.KernelIdeal.Quant

open Idealize.ShloMosaic Cert.KernelIdeal Cert.KernelIdeal.Gen Cert.Nvfp4

theorem mag_apply (a : FVec I S64x128 .f32) (j : S64x128.Idx) : magOf a j = ((tab (lad (a j)) : ℝ) : EReal) := by
  have e : magOf a j = FloatOps.sitofp (F := I) .f32 (IntOp.addi (IntOp.addi (IntOp.addi (mOf a j) (gtB a (1075838976#32) j))
      (geB a (1080033280#32) j)) (IntOp.muli (3#32) (gtB a (1084227584#32) j))) * Ideal.ofBits .f32 0x3F000000#32 := by
    idx_vars j
    pointwise [magOf]
  obtain ⟨h1, h2, h3, h4, h5, h6, h7⟩ := lad_spec (a j)
  have e5 : gtB a (1075838976#32) j = BitVec.setWidth 32 (BitVec.ofBool (decide (5 ≤ lad (a j)))) := by
    simp only [← h5, ← c25]; idx_vars j; pointwise [gtB]
  have e6 : geB a (1080033280#32) j = BitVec.setWidth 32 (BitVec.ofBool (decide (6 ≤ lad (a j)))) := by
    simp only [← h6, ← c35]; idx_vars j; pointwise [geB]
  have e7 : gtB a (1084227584#32) j = BitVec.setWidth 32 (BitVec.ofBool (decide (7 ≤ lad (a j)))) := by
    simp only [← h7, ← c5]; idx_vars j; pointwise [gtB]
  rw [e, m_apply, e5, e6, e7, chalf]
  generalize lad (a j) = k
  have hz : ∀ k : Fin 8, (IntOp.addi (IntOp.addi (IntOp.addi (BitVec.ofNat 32 k.val) (BitVec.setWidth 32 (BitVec.ofBool (decide (5 ≤ k)))))
      (BitVec.setWidth 32 (BitVec.ofBool (decide (6 ≤ k))))) (IntOp.muli (3#32) (BitVec.setWidth 32 (BitVec.ofBool (decide (7 ≤ k)))))).toInt
      = (![0, 1, 2, 3, 4, 6, 8, 12] : Fin 8 → ℤ) k := by decide
  show (((BitVec.toInt _ : ℤ) : ℝ) : EReal) * _ = _
  rw [hz, ← EReal.coe_mul]
  congr 1
  fin_cases k <;> simp [tab] <;> norm_num

theorem val_apply (y : FVec I S64x128 .f32) (j : S64x128.Idx) (Y : EReal)
    (h : y j = min (max Y ((-6 : ℝ) : EReal)) ((6 : ℝ) : EReal)) : valOf y j = dec Y := by
  have e : valOf y j = if y j < 0 then 0 - magOf (absf y) j else magOf (absf y) j := by
    idx_vars j
    pointwise [valOf, negB]
  have hm : magOf (absf y) j = ((tab (lad (max Y (-Y))) : ℝ) : EReal) := by
    rw [mag_apply, ← lad_clip, ← h]; rfl
  have hn : y j < 0 ↔ Y < 0 := by rw [h]; exact neg_clip Y
  rw [e, hm]
  unfold dec
  simp only [hn, zero_sub]

theorem v_apply (y : FVec I S64x128 .f32) (b0 b1 : FVec I S8x128 .f32) (e s : Fin 8) (l : Fin 128) :
    vOf y (bs16 b0) (bs16 b1) (ix2 (r64 e s) l) = valOf y (ix2 (r64 e s) l) * (if e.val < 4 then b0 else b1) (ix2 s l) := by
  have hi := s.isLt
  fin_cases e <;> pointwise [vOf, bs16, r64]
  all_goals
    congr 1
    repeat first | rw [dif_neg (by omega)] | rw [dif_pos (by omega)]
    try exact congrArg _ (congrArg (ix2 · l) (Fin.ext (by simp; try omega)))

section Half
variable (u : FVec I S256x128 .f32) (rs : FVec I S1x128 .f32) (g : FVec I S8x128 .f32) (G : EReal)

theorem wq_apply (hg : ∀ s l, g (ix2 s l) = G) (q : Fin 4) (e s : Fin 8) (l : Fin 128) (hr : 0 < rs (ix2 0 l)) :
    (wq u rs g q (ix2 e l)).toNat / 16 ^ s.val % 16 = nib (yV u rs G l (ch q e s)) := by
  let c : ℕ → ℕ := fun s => if h : s < 8 then nib0 (yV u rs G l (ch q e ⟨s, h⟩)) else 0
  have hc : ∀ s, c s < 16 := fun s => by
    show dite _ _ _ < 16
    split
    · exact nib0_lt _
    · norm_num
  have hw : (wordOf (codeOf (yq u rs g q)) (ix2 e l)).toNat = Nibbles.horner 8 c := by
    rw [word_apply]
    refine Nibbles.word_toNat _ c (fun s => ?_) hc
    rw [code_apply _ _ _ (yq_apply u rs g G hg q e s l hr)]
    show _ = dite _ _ _
    rw [dif_pos s.isLt]
  show (nzOf _ (ix2 e l)).toNat / _ % _ = _
  rw [nz_apply, Nibbles.nz_toNat _ c hw hc, Nibbles.horner_digit 8 _ s.val (fun s => Nibbles.unsign_lt (hc s)) s.isLt]
  show Nibbles.unsign (dite _ _ _) = _
  rw [dif_pos s.isLt, unsign_nib0]

theorem codesH_apply (hg : ∀ s l, g (ix2 s l) = G) (l p : Fin 128) (hr : 0 < rs (ix2 0 l)) :
    codesH u rs g (ix3 0 l p) = BitVec.ofNat 8 (nib (yV u rs G l (⟨2 * p.val, by omega⟩ : Fin 256))
      + 16 * nib (yV u rs G l (⟨2 * p.val + 1, by omega⟩ : Fin 256))) := by
  let k : Fin 4 := ⟨p.val / 32, by omega⟩
  let t : Fin 2 := ⟨p.val / 16 % 2, by omega⟩
  let i : Fin 16 := ⟨p.val % 16, by omega⟩
  have hp : p = r128 ⟨2 * k.val + t.val, by omega⟩ i := Fin.ext (by simp only [r128, k, t, i]; omega)
  have h1 := codes_apply (wq u rs g 0) (wq u rs g 1) (wq u rs g 2) (wq u rs g 3) k t i l
  rw [← hp] at h1
  have hd := fun q => wq_apply u rs g G hg q ⟨i.val / 2, by omega⟩ ⟨2 * k.val + t.val, by omega⟩ l hr
  unfold codesH
  rw [h1]
  rcases Nat.mod_two_eq_zero_or_one i.val with h | h <;> simp only [h, if_true, one_ne_zero, if_false, hd]
  · congr 6 <;> simp only [ch, k, t, i] at h ⊢ <;> simp <;> omega
  · congr 6 <;> simp only [ch, k, t, i] at h ⊢ <;> simp <;> omega

theorem bsH_apply (hg : ∀ s l, g (ix2 s l) = G) (B : Fin 16) (l : Fin 128) (hr : 0 < rs (ix2 0 l)) :
    bsH u rs g (ix2 B l) = bV u rs G l B := by
  have e : bsH u rs g (ix2 B l) = if B.val % 2 = 0 then bsA u rs g (ix2 (⟨B.val / 2, by omega⟩ : Fin 8) l)
      else bsB u rs g (ix2 (⟨B.val / 2, by omega⟩ : Fin 8) l) := by
    pointwise [bsH, bsPair]
  rw [e, bsA_apply u rs g G hg _ _ hr, bsB_apply u rs g G hg _ _ hr]
  rcases Nat.mod_two_eq_zero_or_one B.val with h | h <;> simp only [h, if_true, one_ne_zero, if_false] <;>
    congr 1 <;> apply Fin.ext <;> simp <;> omega

theorem vH_apply (hg : ∀ s l, g (ix2 s l) = G) (q : Fin 4) (e s : Fin 8) (l : Fin 128) (hr : 0 < rs (ix2 0 l)) :
    vH u rs g (ix2 (r256 q e s) l) = dec (yV u rs G l (ch q e s)) * bV u rs G l ⟨(ch q e s).val / 16, by omega⟩ := by
  have h1 : vH u rs g (ix2 (r256 q e s) l) = vq u rs g q (ix2 (r64 e s) l) := by
    have hs := s.isLt
    have he := e.isLt
    fin_cases q <;> pointwise [vH, r256]
    all_goals
      repeat rw [dif_neg (by omega)]
      try rw [dif_pos (by omega)]
      exact congrArg _ (congrArg (ix2 · l) (Fin.ext (by simp [r64]; try omega)))
  rw [h1]
  unfold vq
  rw [v_apply, val_apply _ _ _ (yq_apply u rs g G hg q e s l hr)]
  congr 1
  by_cases h : e.val < 4
  · rw [if_pos h, bsA_apply u rs g G hg s l hr]; congr 1; apply Fin.ext; simp only [ch]; omega
  · rw [if_neg h, bsB_apply u rs g G hg s l hr]; congr 1; apply Fin.ext; simp only [ch]; omega

end Half
end Cert.KernelIdeal.Quant
-- ==== Proof.Quant.Bridge.lean ====
/- The body's three results at a grid point, as printed, are the chunk's functions of the six input blocks. -/
module

public import proofs.«01_k».proof.Proof.Quant.Chunk

@[expose] public section

set_option maxRecDepth 100000

noncomputable section

namespace Cert.KernelIdeal.Quant

open Idealize.ShloMosaic Idealize.SL.Sem Cert.KernelIdeal Cert.KernelIdeal.Gen

variable {F : FTy → Type} [FloatOps F]

/-- A half's block scales, tokens first, from the twelve chunks' rows. -/
def bsAll (f : Fin 12 → FVec F S16x128 .bf16) : FVec F S1x128x192 .fp8e4m3 :=
  shapeCast S1x128x192 (truncf .fp8e4m3 (transpose S128x192 [1, 0] (concatenate S192x128 0 [⟨S16x128, f 0⟩, ⟨S16x128, f 1⟩, ⟨S16x128, f 2⟩, ⟨S16x128, f 3⟩, ⟨S16x128, f 4⟩, ⟨S16x128, f 5⟩, ⟨S16x128, f 6⟩, ⟨S16x128, f 7⟩, ⟨S16x128, f 8⟩, ⟨S16x128, f 9⟩, ⟨S16x128, f 10⟩, ⟨S16x128, f 11⟩]
    concatenates_S16x128_S16x128_S16x128_S16x128_S16x128_S16x128_S16x128_S16x128_S16x128_S16x128_S16x128_S16x128_S192x128_d0) transposes_S192x128_p1_0_S128x192) bitsLt_fp8e4m3_bf16) shapeCasts_S128x192_S1x128x192

variable (x0 : Vec F S1x256x3072 .bf16) (x1 : Vec F S1x3072x384 .bf16) (x2 : Vec F S1x3072x128 .f32) (x3 : Vec F S1x8x256 .f32) (x4 : Vec F S1x8x128 .f32) (x5 : Vec F S64x3072 .fp8e4m3)

/-- The twelve chunks' products, added in order. -/
def accAll : FVec F S1x64x256 .f32 :=
  shapeCast S1x64x256 (addf (addf (addf (addf (addf (addf (addf (addf (addf (addf (addf (pC x0 x1 x2 x3 x4 x5 0) (pC x0 x1 x2 x3 x4 x5 1)) (pC x0 x1 x2 x3 x4 x5 2)) (pC x0 x1 x2 x3 x4 x5 3)) (pC x0 x1 x2 x3 x4 x5 4)) (pC x0 x1 x2 x3 x4 x5 5)) (pC x0 x1 x2 x3 x4 x5 6)) (pC x0 x1 x2 x3 x4 x5 7)) (pC x0 x1 x2 x3 x4 x5 8)) (pC x0 x1 x2 x3 x4 x5 9)) (pC x0 x1 x2 x3 x4 x5 10)) (pC x0 x1 x2 x3 x4 x5 11)) shapeCasts_S64x256_S1x64x256

theorem out6_eq : out0_6 x0 x1 x2 x3 x4 x5 = View.canon
    [⟨codesR 11 1, codesC x0 x1 x2 x3 x4 11 1⟩,
     ⟨codesR 11 0, codesC x0 x1 x2 x3 x4 11 0⟩,
     ⟨codesR 10 1, codesC x0 x1 x2 x3 x4 10 1⟩,
     ⟨codesR 10 0, codesC x0 x1 x2 x3 x4 10 0⟩,
     ⟨codesR 9 1, codesC x0 x1 x2 x3 x4 9 1⟩,
     ⟨codesR 9 0, codesC x0 x1 x2 x3 x4 9 0⟩,
     ⟨codesR 8 1, codesC x0 x1 x2 x3 x4 8 1⟩,
     ⟨codesR 8 0, codesC x0 x1 x2 x3 x4 8 0⟩,
     ⟨codesR 7 1, codesC x0 x1 x2 x3 x4 7 1⟩,
     ⟨codesR 7 0, codesC x0 x1 x2 x3 x4 7 0⟩,
     ⟨codesR 6 1, codesC x0 x1 x2 x3 x4 6 1⟩,
     ⟨codesR 6 0, codesC x0 x1 x2 x3 x4 6 0⟩,
     ⟨codesR 5 1, codesC x0 x1 x2 x3 x4 5 1⟩,
     ⟨codesR 5 0, codesC x0 x1 x2 x3 x4 5 0⟩,
     ⟨codesR 4 1, codesC x0 x1 x2 x3 x4 4 1⟩,
     ⟨codesR 4 0, codesC x0 x1 x2 x3 x4 4 0⟩,
     ⟨codesR 3 1, codesC x0 x1 x2 x3 x4 3 1⟩,
     ⟨codesR 3 0, codesC x0 x1 x2 x3 x4 3 0⟩,
     ⟨codesR 2 1, codesC x0 x1 x2 x3 x4 2 1⟩,
     ⟨codesR 2 0, codesC x0 x1 x2 x3 x4 2 0⟩,
     ⟨codesR 1 1, codesC x0 x1 x2 x3 x4 1 1⟩,
     ⟨codesR 1 0, codesC x0 x1 x2 x3 x4 1 0⟩,
     ⟨codesR 0 1, codesC x0 x1 x2 x3 x4 0 1⟩,
     ⟨codesR 0 0, codesC x0 x1 x2 x3 x4 0 0⟩] := by rfl

theorem out7_eq : out0_7 x0 x1 x2 x3 x4 x5 = View.canon
    [⟨bsR 1, bsAll fun c => bsC x0 x1 x2 x3 x4 c 1⟩, ⟨bsR 0, bsAll fun c => bsC x0 x1 x2 x3 x4 c 0⟩] := by rfl

theorem out8_eq : out0_8 x0 x1 x2 x3 x4 x5 = View.canon [⟨r0_88, accAll x0 x1 x2 x3 x4 x5⟩] := by rfl

end Cert.KernelIdeal.Quant
-- ==== Proof.Quant.PointVal.lean ====
/- What one grid point computes: from what its six input blocks hold, the three results' blocks one number at a time. -/
module

public import proofs.«01_k».proof.Proof.Quant.UPoint
public import proofs.«01_k».proof.Proof.Quant.KPoint2
public import proofs.«01_k».proof.Proof.Quant.Bridge

@[expose] public section

set_option maxRecDepth 16384

noncomputable section

namespace Cert.KernelIdeal.Quant
open Idealize.ShloMosaic Idealize.ShloMosaic.TcCoe Idealize.SL.Sem Cert.KernelIdeal Cert.KernelIdeal.Gen Cert.Nvfp4

section Values
variable (X : FVec I S6x8192x3072 .bf16) (SH SC : FVec I S6x3072 .f32) (W : Vec I S3072x64 .fp8e4m3) (ST : FVec I S6x8x8192 .f32) (GG : FVec I S6x8x128 .f32)

/-- The modulated layer norm. -/
def HK (r : Fin 6) (t : Fin 8192) (d : Fin 3072) : EReal :=
  (X (ix3 r t d) - ST (ix3 r 0 t)) * ST (ix3 r 2 t) * (1 + SC (ix2 r d)) + SH (ix2 r d)
def chanK (B : Fin 192) (k : Fin 16) : Fin 3072 := ⟨B.val * 16 + k.val, by omega⟩
/-- The greatest absolute value of a block of 16 channels. -/
def AK (r : Fin 6) (t : Fin 8192) (B : Fin 192) : EReal := Finset.univ.sup fun k => max (HK X SH SC ST r t (chanK B k)) (-(HK X SH SC ST r t (chanK B k)))
/-- A block's scale. -/
def bK (r : Fin 6) (t : Fin 8192) (B : Fin 192) : EReal := bsS (AK X SH SC ST r t B) (GG (ix3 r 0 0))
def blkK (d : Fin 3072) : Fin 192 := ⟨d.val / 16, by omega⟩
/-- A channel's scaled value. -/
def yK (r : Fin 6) (t : Fin 8192) (d : Fin 3072) : EReal := Ideal.div (HK X SH SC ST r t d) (denS (bK X SH SC ST GG r t (blkK d)) (GG (ix3 r 0 0)))
/-- A channel's decoded value. -/
def vK (r : Fin 6) (t : Fin 8192) (d : Fin 3072) : EReal := dec (yK X SH SC ST GG r t d) * bK X SH SC ST GG r t (blkK d)

/-- What the statistics and the other arguments must satisfy. -/
structure Good : Prop where
  fx : ∀ i, ∃ v : ℝ, X i = (v : EReal)
  fsh : ∀ i, ∃ v : ℝ, SH i = (v : EReal)
  fsc : ∀ i, ∃ v : ℝ, SC i = (v : EReal)
  f0 : ∀ r t, ∃ v : ℝ, ST (ix3 r 0 t) = (v : EReal)
  f1 : ∀ r t, ∃ v : ℝ, ST (ix3 r 1 t) = (v : EReal)
  f2 : ∀ r t, ∃ v : ℝ, ST (ix3 r 2 t) = (v : EReal)
  inv : ∀ r t, ST (ix3 r 1 t) * ST (ix3 r 2 t) = 1
  pos : ∀ r t, 0 < ST (ix3 r 2 t)
  geq : ∀ r s l, GG (ix3 r s l) = GG (ix3 r 0 0)

/-- Token `t` of tile `T`. -/
def tokT (T : Fin 32) (t : Fin 256) : Fin 8192 := ⟨256 * T.val + t.val, by omega⟩

variable (r : Fin 6) (T : Fin 32)
variable (x0 : Vec I S1x256x3072 .bf16) (x1 : Vec I S1x3072x384 .bf16) (x2 : Vec I S1x3072x128 .f32) (x3 : Vec I S1x8x256 .f32) (x4 : Vec I S1x8x128 .f32) (x5 : Vec I S64x3072 .fp8e4m3)

/-- The six input blocks of the grid point at row `r` and tile `T`. -/
structure Blocks : Prop where
  b0 : ∀ t d, x0 (ix3 0 t d) = X (ix3 r (tokT T t) d)
  b1s : ∀ R (k : Fin 256), x1 (ix3 0 R (sel k)) = if k.val = (chR R).val % 256 then 1 + SC (ix2 r (chR R)) else 0
  b1c : ∀ R (j : Fin 16), x1 (ix3 0 R (lane j)) = cofV (1 + SC (ix2 r (chR R))) (SH (ix2 r (chR R))) j.val
  b2 : ∀ R l, x2 (ix3 0 R l) = (1 : EReal)
  b3 : ∀ s t, x3 (ix3 0 s t) = ST (ix3 r s (tokT T t))
  b4 : ∀ s l, x4 (ix3 0 s l) = GG (ix3 r s l)
  b5 : ∀ p R, x5 (ix2 p R) = W (ix2 (chR R) (outK p))

/-- The block of 16 with a given number in a chunk. -/
def blkC (c : Fin 12) (B : Fin 16) : Fin 192 := ⟨16 * c.val + B.val, by omega⟩

variable (hG : Good X SH SC ST GG) (hB : Blocks X SH SC W ST GG r T x0 x1 x2 x3 x4 x5)
include hG hB

theorem hS_eq (c : Fin 12) (h : Fin 2) (d : Fin 256) (l : Fin 128) :
    hS (uC x0 x1 x2 x3 c h) (rsC x3 h) l d = HK X SH SC ST r (tokT T (tokH h l)) (rowC c d) := by
  obtain ⟨ξ, hξ⟩ := hG.fx (ix3 r (tokT T (tokH h l)) (rowC c d))
  obtain ⟨κ, hκ⟩ := hG.fsh (ix2 r (rowC c d))
  obtain ⟨β, hβ⟩ := hG.fsc (ix2 r (rowC c d))
  obtain ⟨μ, hμ⟩ := hG.f0 r (tokT T (tokH h l))
  obtain ⟨σ, hσ⟩ := hG.f1 r (tokT T (tokH h l))
  obtain ⟨ρ, hρ⟩ := hG.f2 r (tokT T (tokH h l))
  have hi := hG.inv r (tokT T (tokH h l))
  rw [hσ, hρ, ← EReal.coe_mul] at hi
  have hi' : σ * ρ = 1 := by exact_mod_cast hi
  have ea : (1 : EReal) + SC (ix2 r (rowC c d)) = ((1 + β : ℝ) : EReal) := by rw [hβ]; push_cast; rfl
  rw [hS_apply x0 x1 x2 x3 c h d l (1 + β) κ ξ μ σ ρ hi'
    (fun k => by rw [hB.b1s, chR_perm, ea]) (fun j => by rw [hB.b1c, chR_perm, ea, hκ]) (hB.b2 _ _)
    (by rw [hB.b0, hξ]) (by rw [hB.b3, hμ]) (by rw [hB.b3, hσ]) (by rw [hB.b3, hρ])]
  unfold HK
  rw [hξ, hμ, hρ, ea, hκ]

theorem rs_pos (h : Fin 2) (l : Fin 128) : 0 < rsC x3 h (ix2 0 l) := by
  rw [rsC_apply, hB.b3]; exact hG.pos _ _

theorem g_eq (s : Fin 8) (l : Fin 128) : gC x4 (ix2 s l) = GG (ix3 r 0 0) := by
  rw [gC_apply, hB.b4, hG.geq]

theorem bV_eq (c : Fin 12) (h : Fin 2) (B : Fin 16) (l : Fin 128) :
    bV (uC x0 x1 x2 x3 c h) (rsC x3 h) (GG (ix3 r 0 0)) l B = bK X SH SC ST GG r (tokT T (tokH h l)) (blkC c B) := by
  unfold bV bK aS AK
  congr 1
  refine Finset.sup_congr rfl fun k _ => ?_
  have e : rowC c (chan B k) = chanK (blkC c B) k := by apply Fin.ext; simp only [rowC, chan, chanK, blkC]; omega
  rw [hS_eq X SH SC W ST GG r T x0 x1 x2 x3 x4 x5 hG hB, e]

theorem yV_eq (c : Fin 12) (h : Fin 2) (d : Fin 256) (l : Fin 128) :
    yV (uC x0 x1 x2 x3 c h) (rsC x3 h) (GG (ix3 r 0 0)) l d = yK X SH SC ST GG r (tokT T (tokH h l)) (rowC c d) := by
  unfold yV yK
  rw [hS_eq X SH SC W ST GG r T x0 x1 x2 x3 x4 x5 hG hB, bV_eq X SH SC W ST GG r T x0 x1 x2 x3 x4 x5 hG hB]
  have e : blkC c ⟨d.val / 16, by omega⟩ = blkK (rowC c d) := by apply Fin.ext; simp only [rowC, blkK, blkC]; omega
  rw [e]

def pairC (c : Fin 12) (p : Fin 128) (b : Fin 2) : Fin 3072 := ⟨256 * c.val + 2 * p.val + b.val, by omega⟩

omit hG hB in
theorem rowC_even (c : Fin 12) (p : Fin 128) : rowC c ⟨2 * p.val, by omega⟩ = pairC c p 0 := by
  apply Fin.ext; simp [rowC, pairC]
omit hG hB in
theorem rowC_odd (c : Fin 12) (p : Fin 128) : rowC c ⟨2 * p.val + 1, by omega⟩ = pairC c p 1 := by
  apply Fin.ext; simp [rowC, pairC, Nat.add_assoc]

theorem codes_point (c : Fin 12) (h : Fin 2) (l p : Fin 128) : codesC x0 x1 x2 x3 x4 c h (ix3 0 l p)
    = BitVec.ofNat 8 (nib (yK X SH SC ST GG r (tokT T (tokH h l)) (pairC c p 0)) + 16 * nib (yK X SH SC ST GG r (tokT T (tokH h l)) (pairC c p 1))) := by
  unfold codesC
  rw [codesH_apply _ _ _ _ (g_eq X SH SC W ST GG r T x0 x1 x2 x3 x4 x5 hG hB) l p (rs_pos X SH SC W ST GG r T x0 x1 x2 x3 x4 x5 hG hB h l),
    yV_eq X SH SC W ST GG r T x0 x1 x2 x3 x4 x5 hG hB, yV_eq X SH SC W ST GG r T x0 x1 x2 x3 x4 x5 hG hB, rowC_even, rowC_odd]

theorem bs_point (c : Fin 12) (h : Fin 2) (B : Fin 16) (l : Fin 128) : bsC x0 x1 x2 x3 x4 c h (ix2 B l)
    = bK X SH SC ST GG r (tokT T (tokH h l)) (blkC c B) := by
  unfold bsC
  rw [bsH_apply _ _ _ _ (g_eq X SH SC W ST GG r T x0 x1 x2 x3 x4 x5 hG hB) B l (rs_pos X SH SC W ST GG r T x0 x1 x2 x3 x4 x5 hG hB h l),
    bV_eq X SH SC W ST GG r T x0 x1 x2 x3 x4 x5 hG hB]

theorem v_point (c : Fin 12) (h : Fin 2) (i : Fin 256) (l : Fin 128) : vC x0 x1 x2 x3 x4 c h (ix2 i l)
    = vK X SH SC ST GG r (tokT T (tokH h l)) (chR (rowC c i)) := by
  let q : Fin 4 := ⟨i.val / 64, by omega⟩
  let e : Fin 8 := ⟨i.val / 8 % 8, by omega⟩
  let s : Fin 8 := ⟨i.val % 8, by omega⟩
  have hi : i = r256 q e s := by apply Fin.ext; simp only [r256, q, e, s]; omega
  have hc : chR (rowC c i) = rowC c (ch q e s) := by
    rw [hi]; apply Fin.ext; simp only [chR, rowC, r256, ch]; omega
  rw [hc, hi]
  unfold vC
  rw [vH_apply _ _ _ _ (g_eq X SH SC W ST GG r T x0 x1 x2 x3 x4 x5 hG hB) q e s l (rs_pos X SH SC W ST GG r T x0 x1 x2 x3 x4 x5 hG hB h l),
    yV_eq X SH SC W ST GG r T x0 x1 x2 x3 x4 x5 hG hB, bV_eq X SH SC W ST GG r T x0 x1 x2 x3 x4 x5 hG hB]
  unfold vK
  have e' : blkC c ⟨(ch q e s).val / 16, by omega⟩ = blkK (rowC c (ch q e s)) := by apply Fin.ext; simp only [rowC, blkK, blkC]; omega
  rw [e']

theorem p_point (c : Fin 12) (p : Fin 64) (h : Fin 2) (l : Fin 128) : pC x0 x1 x2 x3 x4 x5 c (ix2 p (tokH h l))
    = ∑ i : Fin 256, W (ix2 (chR (rowC c i)) (outK p)) * vK X SH SC ST GG r (tokT T (tokH h l)) (chR (rowC c i)) := by
  rw [pC_apply]
  refine Finset.sum_congr rfl fun i _ => ?_
  rw [hB.b5, v_point X SH SC W ST GG r T x0 x1 x2 x3 x4 x5 hG hB]

end Values
end Cert.KernelIdeal.Quant
-- ==== Proof.Quant.KOut.lean ====
/- The three blocks a grid point writes, one number at a time. -/
module

public import proofs.«01_k».proof.Proof.Quant.PointVal

@[expose] public section

set_option maxRecDepth 16384

noncomputable section

namespace Cert.KernelIdeal.Quant
open Idealize.ShloMosaic Idealize.ShloMosaic.TcCoe Idealize.SL.Sem Cert.KernelIdeal Cert.KernelIdeal.Gen Cert.Nvfp4

def evK (x : Fin 1536) : Fin 3072 := ⟨x.val * 2, by omega⟩
def odK (x : Fin 1536) : Fin 3072 := ⟨x.val * 2 + 1, by omega⟩

section Values
variable (X : FVec I S6x8192x3072 .bf16) (SH SC : FVec I S6x3072 .f32) (W : Vec I S3072x64 .fp8e4m3) (ST : FVec I S6x8x8192 .f32) (GG : FVec I S6x8x128 .f32)

/-- A byte of two codes. -/
def byteK (r : Fin 6) (t : Fin 8192) (p : Fin 1536) : BitVec 8 :=
  BitVec.ofNat 8 (nib (yK X SH SC ST GG r t (evK p)) + 16 * nib (yK X SH SC ST GG r t (odK p)))
/-- An entry of the product with the weights. -/
def accK (r : Fin 6) (p : Fin 64) (t : Fin 8192) : EReal := ∑ d : Fin 3072, W (ix2 d (outK p)) * vK X SH SC ST GG r t d

variable (r : Fin 6) (T : Fin 32)
variable (x0 : Vec I S1x256x3072 .bf16) (x1 : Vec I S1x3072x384 .bf16) (x2 : Vec I S1x3072x128 .f32) (x3 : Vec I S1x8x256 .f32) (x4 : Vec I S1x8x128 .f32) (x5 : Vec I S64x3072 .fp8e4m3)

variable (hG : Good X SH SC ST GG) (hB : Blocks X SH SC W ST GG r T x0 x1 x2 x3 x4 x5)

def codesBlk (y : S1x256x1536.Idx) : BitVec 8 := byteK X SH SC ST GG r (tokT T (y 1)) (y 2)
def bsBlk (y : S1x256x192.Idx) : EReal := bK X SH SC ST GG r (tokT T (y 1)) (y 2)

include hG hB

omit hG hB in
theorem tok_emb (c : Fin 12) (h : Fin 2) (l p : Fin 128) :
    codesBlk X SH SC ST GG r T ((codesR c h).emb (ix3 0 l p))
      = byteK X SH SC ST GG r (tokT T (tokH h l)) (⟨128 * c.val + p.val, by omega⟩ : Fin 1536) := by
  unfold codesBlk
  congr 2
  · apply Fin.ext; simp [Rect.emb_apply, codesR, bsR, tokH]
  · apply Fin.ext; simp [Rect.emb_apply, codesR]

theorem codes_piece (c : Fin 12) (h : Fin 2) (x : S1x128x128.Idx) :
    codesC x0 x1 x2 x3 x4 c h x = codesBlk X SH SC ST GG r T ((codesR c h).emb x) := by
  obtain ⟨l, p, rfl⟩ : ∃ l p : Fin 128, x = ix3 0 l p := by
    refine ⟨x 1, x 2, ?_⟩
    funext a
    fin_cases a
    · exact Fin.eq_zero _
    · rfl
    · rfl
  rw [codes_point X SH SC W ST GG r T x0 x1 x2 x3 x4 x5 hG hB, tok_emb]
  unfold byteK
  have e0 : pairC c p 0 = evK (⟨128 * c.val + p.val, by omega⟩ : Fin 1536) := by apply Fin.ext; simp [pairC, evK]; omega
  have e1 : pairC c p 1 = odK (⟨128 * c.val + p.val, by omega⟩ : Fin 1536) := by apply Fin.ext; simp [pairC, odK]; omega
  rw [e0, e1]

theorem out6_point (y : S1x256x1536.Idx) : out0_6 x0 x1 x2 x3 x4 x5 y = codesBlk X SH SC ST GG r T y := by
  have P := codes_piece X SH SC W ST GG r T x0 x1 x2 x3 x4 x5 hG hB
  rw [out6_eq]
  refine View.canon_apply_of_pieces (Val := Elt I) (e := .i8) (codesBlk X SH SC ST GG r T) _ ?_ y ?_
  rotate_left
  · exact cover0_6 _ _ _ _ _ _ _ _ _ _ _ _ _ _ _ _ _ _ _ _ _ _ _ _ y
  simp only [List.forall_mem_cons, List.not_mem_nil, false_imp_iff, implies_true, and_true]
  repeat' apply And.intro
  all_goals exact P _ _

omit hG hB in
theorem bsAll_apply (f : Fin 12 → FVec I S16x128 .bf16) (l : Fin 128) (c : Fin 12) (B : Fin 16) :
    bsAll f (ix3 0 l (blkC c B)) = f c (ix2 B l) := by
  pointwise [bsAll]
  fin_cases c
  all_goals
    repeat rw [dif_neg (by simp only [blkC]; omega)]
    try rw [dif_pos (by simp only [blkC]; omega)]
    exact congrArg (f _) (congrArg (ix2 · l) (Fin.ext (by simp only [blkC]; omega)))

theorem bs_piece (h : Fin 2) (x : S1x128x192.Idx) :
    bsAll (fun c => bsC x0 x1 x2 x3 x4 c h) x = bsBlk X SH SC ST GG r T ((bsR h).emb x) := by
  obtain ⟨l, B', rfl⟩ : ∃ (l : Fin 128) (B : Fin 192), x = ix3 0 l B := by
    refine ⟨x 1, x 2, ?_⟩
    funext a
    fin_cases a
    · exact Fin.eq_zero _
    · rfl
    · rfl
  obtain ⟨c, B, rfl⟩ : ∃ (c : Fin 12) (B : Fin 16), B' = blkC c B :=
    ⟨⟨B'.val / 16, by omega⟩, ⟨B'.val % 16, by omega⟩, Fin.ext (by simp only [blkC]; omega)⟩
  rw [bsAll_apply, bs_point X SH SC W ST GG r T x0 x1 x2 x3 x4 x5 hG hB]
  unfold bsBlk
  congr 2
  · apply Fin.ext; simp [Rect.emb_apply, codesR, bsR, tokH]
  · apply Fin.ext; simp [Rect.emb_apply, bsR]

theorem out7_point (y : S1x256x192.Idx) : out0_7 x0 x1 x2 x3 x4 x5 y = bsBlk X SH SC ST GG r T y := by
  have P := bs_piece X SH SC W ST GG r T x0 x1 x2 x3 x4 x5 hG hB
  rw [out7_eq]
  refine View.canon_apply_of_pieces (Val := Elt I) (e := .fp8e4m3) (bsBlk X SH SC ST GG r T) _ ?_ y ?_
  rotate_left
  · exact cover0_7 _ _ y
  simp only [List.forall_mem_cons, List.not_mem_nil, false_imp_iff, implies_true, and_true]
  exact ⟨P 1, P 0⟩

omit hG hB in
theorem accAll_apply (p : Fin 64) (t : Fin 256) :
    accAll x0 x1 x2 x3 x4 x5 (ix3 0 p t) = ∑ c : Fin 12, pC x0 x1 x2 x3 x4 x5 c (ix2 p t) := by
  pointwise [accAll]
  simp only [Fin.sum_univ_castSucc, Fin.sum_univ_zero, zero_add]
  rfl

omit hG hB in
/-- The row that holds a channel. -/
def chI (d : Fin 3072) : Fin 3072 :=
  ⟨d.val / 256 * 256 + (d.val % 4 * 64 + d.val / 16 % 2 * 32 + d.val / 4 % 4 * 8 + d.val / 32 % 8), by omega⟩

omit hG hB in
theorem chR_chI : ∀ d : Fin 3072, chR (chI d) = d := by decide +kernel

omit hG hB in
/-- A sum over the rows of every chunk is a sum over the channels. -/
theorem sum_rows (f : Fin 3072 → EReal) : ∑ c : Fin 12, ∑ i : Fin 256, f (chR (rowC c i)) = ∑ d : Fin 3072, f d := by
  have e := Fin.sum_univ_tiles 12 256 rfl (fun k => f (chR k))
  have e2 : ∑ k : Fin 3072, f (chR k) = ∑ d : Fin 3072, f d := by
    refine Finset.sum_bijective chR ?_ (by simp) (fun _ _ => rfl)
    exact Finite.surjective_iff_bijective.mp fun d => ⟨chI d, chR_chI d⟩
  rw [← e2]
  refine Eq.trans ?_ e.symm
  refine Finset.sum_congr rfl fun c _ => Finset.sum_congr rfl fun i _ => ?_
  congr 2
  apply Fin.ext; simp only [rowC]; omega

theorem acc_point (p : Fin 64) (t : Fin 256) :
    accAll x0 x1 x2 x3 x4 x5 (ix3 0 p t) = accK X SH SC W ST GG r p (tokT T t) := by
  obtain ⟨h, l, rfl⟩ : ∃ (h : Fin 2) (l : Fin 128), t = tokH h l :=
    ⟨⟨t.val / 128, by omega⟩, ⟨t.val % 128, by omega⟩, Fin.ext (by simp only [tokH]; omega)⟩
  rw [accAll_apply]
  unfold accK
  rw [← sum_rows]
  exact Finset.sum_congr rfl fun c _ => p_point X SH SC W ST GG r T x0 x1 x2 x3 x4 x5 hG hB c p h l

theorem out8_point (y : S1x64x256.Idx) : out0_8 x0 x1 x2 x3 x4 x5 y = accK X SH SC W ST GG r (y 1) (tokT T (y 2)) := by
  rw [out8_eq]
  refine (View.canon_apply_of_pieces (Val := Elt I) (e := .f32) (accAll x0 x1 x2 x3 x4 x5) _ ?_ y (cover0_8 _ y)).trans ?_
  · simp only [List.forall_mem_cons, List.not_mem_nil, false_imp_iff, implies_true, and_true]
    intro x
    congr 1
    funext a; apply Fin.ext; fin_cases a <;> simp [Rect.emb_apply, r0_88]
  · refine Eq.trans ?_ (acc_point X SH SC W ST GG r T x0 x1 x2 x3 x4 x5 hG hB (y 1) (y 2))
    congr 1
    funext a
    fin_cases a
    · exact Fin.eq_zero _
    · rfl
    · rfl

end Values
end Cert.KernelIdeal.Quant
-- ==== Proof.Quant.KBlocks.lean ====
/- The six input blocks of every grid point, read off the arrays the host prepared. -/
module

public import proofs.«01_k».proof.Proof.Quant.PointVal

@[expose] public section

set_option maxRecDepth 16384

noncomputable section

namespace Cert.KernelIdeal.Quant
open Idealize.ShloMosaic Idealize.ShloMosaic.TcCoe Idealize.SL.Sem Cert.KernelIdeal Cert.KernelIdeal.Gen Cert.Nvfp4

theorem idx : ∀ t : Fin cfg0.N,
    win0_0.index t = ![t.val / 32, t.val % 32, 0] ∧ win0_1.index t = ![t.val / 32, 0, 0] ∧ win0_2.index t = ![t.val / 32, 0, 0]
    ∧ win0_3.index t = ![t.val / 32, 0, t.val % 32] ∧ win0_4.index t = ![t.val / 32, 0, 0] ∧ win0_5.index t = ![0, 0]
    ∧ win0_6.index t = ![t.val / 32, t.val % 32, 0] ∧ win0_7.index t = ![t.val / 32, t.val % 32, 0] ∧ win0_8.index t = ![t.val / 32, 0, t.val % 32] :=
  (by decide +kernel : ∀ t : Fin grid0.N, _)

theorem lt_N (t : Fin cfg0.N) : t.val < 192 := t.isLt
/-- The row of a grid point. -/
def rowOf (t : Fin cfg0.N) : Fin 6 := ⟨t.val / 32, by have := lt_N t; omega⟩
/-- The token tile of a grid point. -/
def tileOf (t : Fin cfg0.N) : Fin 32 := ⟨t.val % 32, by omega⟩

variable (m : (ℓ : Loc nD τ sig) → Buf (Elt I) ℓ) (c : Dev nD)

theorem rd0 (v : Vec I S6x8192x3072 .bf16) (t : Fin cfg0.N) (k : Fin 256) (d : Fin 3072) : (((cfg0.win 0).blk t).view.read (Elt I) v : Vec I _ _) (ix3 0 k d) = v (ix3 (rowOf t) (tokT (tileOf t) k) d) := by
  blk_ext [idx t]
  all_goals simp only [rowOf, tileOf, tokT] <;> omega
theorem blk0 (t : Fin cfg0.N) (k : Fin 256) (d : Fin 3072) : iblk m c 0 t (ix3 0 k d) = V m c main_arg0 (ix3 (rowOf t) (tokT (tileOf t) k) d) := rd0 (V m c main_arg0) t k d
theorem rd1 (v : Vec I S6x3072x384 .bf16) (t : Fin cfg0.N) (R : Fin 3072) (k : Fin 384) : (((cfg0.win 1).blk t).view.read (Elt I) v : Vec I _ _) (ix3 0 R k) = v (ix3 (rowOf t) R k) := by
  blk_ext [idx t]
  all_goals simp only [rowOf, tileOf, tokT] <;> omega
theorem blk1 (t : Fin cfg0.N) (R : Fin 3072) (k : Fin 384) : iblk m c 1 t (ix3 0 R k) = V m c main_v51 (ix3 (rowOf t) R k) := rd1 (V m c main_v51) t R k
theorem rd2 (v : Vec I S6x3072x128 .f32) (t : Fin cfg0.N) (R : Fin 3072) (l : Fin 128) : (((cfg0.win 2).blk t).view.read (Elt I) v : Vec I _ _) (ix3 0 R l) = v (ix3 (rowOf t) R l) := by
  blk_ext [idx t]
  all_goals simp only [rowOf, tileOf, tokT] <;> omega
theorem blk2 (t : Fin cfg0.N) (R : Fin 3072) (l : Fin 128) : iblk m c 2 t (ix3 0 R l) = V m c main_v53 (ix3 (rowOf t) R l) := rd2 (V m c main_v53) t R l
theorem rd3 (v : Vec I S6x8x8192 .f32) (t : Fin cfg0.N) (s : Fin 8) (k : Fin 256) : (((cfg0.win 3).blk t).view.read (Elt I) v : Vec I _ _) (ix3 0 s k) = v (ix3 (rowOf t) s (tokT (tileOf t) k)) := by
  blk_ext [idx t]
  all_goals simp only [rowOf, tileOf, tokT] <;> omega
theorem blk3 (t : Fin cfg0.N) (s : Fin 8) (k : Fin 256) : iblk m c 3 t (ix3 0 s k) = V m c main_arg4 (ix3 (rowOf t) s (tokT (tileOf t) k)) := rd3 (V m c main_arg4) t s k
theorem rd4 (v : Vec I S6x8x128 .f32) (t : Fin cfg0.N) (s : Fin 8) (l : Fin 128) : (((cfg0.win 4).blk t).view.read (Elt I) v : Vec I _ _) (ix3 0 s l) = v (ix3 (rowOf t) s l) := by
  blk_ext [idx t]
  all_goals simp only [rowOf, tileOf, tokT] <;> omega
theorem blk4 (t : Fin cfg0.N) (s : Fin 8) (l : Fin 128) : iblk m c 4 t (ix3 0 s l) = V m c main_arg5 (ix3 (rowOf t) s l) := rd4 (V m c main_arg5) t s l
theorem rd5 (v : Vec I S64x3072 .fp8e4m3) (t : Fin cfg0.N) (p : Fin 64) (R : Fin 3072) : (((cfg0.win 5).blk t).view.read (Elt I) v : Vec I _ _) (ix2 p R) = v (ix2 p R) := by
  blk_ext [idx t]
  all_goals simp only [rowOf, tileOf, tokT] <;> omega
theorem blk5 (t : Fin cfg0.N) (p : Fin 64) (R : Fin 3072) : iblk m c 5 t (ix2 p R) = V m c main_v61 (ix2 p R) := rd5 (V m c main_v61) t p R
/-- The arguments, at the shapes the mathematics is stated over. -/
abbrev aX : FVec I S6x8192x3072 .bf16 := m ((c : Thread nD τ).loc main_arg0)
abbrev aSH : FVec I S6x3072 .f32 := m ((c : Thread nD τ).loc main_arg1)
abbrev aSC : FVec I S6x3072 .f32 := m ((c : Thread nD τ).loc main_arg2)
abbrev aW : Vec I S3072x64 .fp8e4m3 := m ((c : Thread nD τ).loc main_arg3)
abbrev aST : FVec I S6x8x8192 .f32 := m ((c : Thread nD τ).loc main_arg4)
abbrev aG : FVec I S6x8x128 .f32 := m ((c : Thread nD τ).loc main_arg5)

end Cert.KernelIdeal.Quant
-- ==== Proof.Quant.KBlocks2.lean ====
/- The six input blocks of every grid point, from the program's arguments. -/
module

public import proofs.«01_k».proof.Proof.Quant.KBlocks

@[expose] public section

set_option maxRecDepth 16384

noncomputable section

namespace Cert.KernelIdeal.Quant
open Idealize.ShloMosaic Idealize.ShloMosaic.TcCoe Idealize.SL.Sem Cert.KernelIdeal Cert.KernelIdeal.Gen Cert.Nvfp4

variable (m : (ℓ : Loc nD τ sig) → Buf (Elt I) ℓ) (c : Dev nD)

section
variable (X : FVec I S6x8192x3072 .bf16) (SH SC : FVec I S6x3072 .f32) (W : Vec I S3072x64 .fp8e4m3) (ST : FVec I S6x8x8192 .f32) (GG : FVec I S6x8x128 .f32)

def laK (SH SC : FVec I S6x3072 .f32) : FVec I S6x3072x384 .bf16 :=
  laH ordH (constantI S_ 32 0#32) (rowsH (aH SC)) (cofH (rowsH (aH SC)) (rowsH (qH SH SC)))

theorem laK_sel (r : Fin 6) (R : Fin 3072) (k : Fin 256) :
    laK SH SC (ix3 r R (sel k)) = if k.val = (chR R).val % 256 then 1 + SC (ix2 r (chR R)) else 0 := by
  unfold laK
  rw [la_sel _ _ _ _ _ (show (sel k).val < 256 from k.isLt), rows_apply, a_apply]
  rfl

theorem laK_cof (hG : Good X SH SC ST GG) (r : Fin 6) (R : Fin 3072) (j : Fin 16) :
    laK SH SC (ix3 r R (lane j)) = cofV (1 + SC (ix2 r (chR R))) (SH (ix2 r (chR R))) j.val := by
  have e : rowsH (qH SH SC) (ix2 r R) = SH (ix2 r (chR R)) := by
    rw [rows_apply, q_apply _ _ _ (hG.fsc _) (hG.fsh _)]
  unfold laK
  rw [la_cof _ _ _ _ (lane j) j.val rfl (by
    rw [e]
    obtain ⟨v, hv⟩ := hG.fsh (ix2 r (chR R))
    rw [hv, ← EReal.coe_sub, sub_self]; rfl), e, rows_apply, a_apply]

theorem mbK_apply (hG : Good X SH SC ST GG) (r : Fin 6) (R : Fin 3072) (l : Fin 128) : mbH (rowsH (mH SC)) (ix3 r R l) = (1 : EReal) := by
  rw [mb_apply, rows_apply, m_one _ _ (hG.fsc _)]
end

theorem b1_eq (t : Fin cfg0.N) (R : Fin 3072) (k : Fin 384) : iblk m c 1 t (ix3 0 R k) = laK (aSH m c) (aSC m c) (ix3 (rowOf t) R k) :=
  (blk1 m c t R k).trans (congrFun (la_read m c) _)
theorem b2_eq (t : Fin cfg0.N) (R : Fin 3072) (l : Fin 128) : iblk m c 2 t (ix3 0 R l) = mbH (rowsH (mH (aSC m c))) (ix3 (rowOf t) R l) :=
  (blk2 m c t R l).trans (congrFun (mb_read m c) _)
theorem b5_eq (t : Fin cfg0.N) (p : Fin 64) (R : Fin 3072) : iblk m c 5 t (ix2 p R) = aW m c (ix2 (chR R) (outK p)) :=
  ((blk5 m c t p R).trans (congrFun (wt_read m c) _)).trans (wt_apply _ p R)

theorem blocks (hG : Good (aX m c) (aSH m c) (aSC m c) (aST m c) (aG m c)) (t : Fin cfg0.N) :
    Blocks (aX m c) (aSH m c) (aSC m c) (aW m c) (aST m c) (aG m c) (rowOf t) (tileOf t)
      (iblk m c 0 t) (iblk m c 1 t) (iblk m c 2 t) (iblk m c 3 t) (iblk m c 4 t) (iblk m c 5 t) where
  b0 k d := (blk0 m c t k d).trans (congrFun (V_main_arg0 m c) _)
  b1s R k := (b1_eq m c t R (sel k)).trans (laK_sel _ _ _ R k)
  b1c R j := (b1_eq m c t R (lane j)).trans (laK_cof _ _ _ _ _ hG _ R j)
  b2 R l := (b2_eq m c t R l).trans (mbK_apply _ _ _ _ _ hG _ R l)
  b3 s k := (blk3 m c t s k).trans (congrFun (V_main_arg4 m c) _)
  b4 s l := (blk4 m c t s l).trans (congrFun (V_main_arg5 m c) _)
  b5 p R := b5_eq m c t p R

end Cert.KernelIdeal.Quant
-- ==== Proof.Quant.KFinal.lean ====
/- The kernel's three result arrays after the run, one number at a time. -/
module

public import proofs.«01_k».proof.Proof.Quant.KOut
public import proofs.«01_k».proof.Proof.Quant.KBlocks2
public import proofs.«01_k».proof.Proof.Gen.KernelIdeal.Value

@[expose] public section

set_option maxRecDepth 16384

noncomputable section

namespace Cert.KernelIdeal.Quant
open Idealize.ShloMosaic Idealize.ShloMosaic.TcCoe Idealize.SL.Sem Cert.KernelIdeal Cert.KernelIdeal.Gen Cert.Nvfp4

section
variable (X : FVec I S6x8192x3072 .bf16) (SH SC : FVec I S6x3072 .f32) (W : Vec I S3072x64 .fp8e4m3) (ST : FVec I S6x8x8192 .f32) (GG : FVec I S6x8x128 .f32)

/-- The array of the bytes. -/
def codesA : Vec I S6x8192x1536 .i8 := fun y => byteK X SH SC ST GG (y 0) (y 1) (y 2)
/-- The array of the block scales. -/
def scalesA : Vec I S6x8192x192 .fp8e4m3 := fun y => bK X SH SC ST GG (y 0) (y 1) (y 2)
/-- The array of the product. -/
def accA : Vec I S6x64x8192 .f32 := fun y => accK X SH SC W ST GG (y 0) (y 1) (y 2)
end

variable (m : (ℓ : Loc nD τ sig) → Buf (Elt I) ℓ) (c : Dev nD)

theorem at6 (v : Vec I S6x8192x1536 .i8) (t : Fin cfg0.N) (y : S1x256x1536.Idx) :
    v (((cfg0.win 6).blk t).view.emb y) = v (ix3 (rowOf t) (tokT (tileOf t) (y 1)) (y 2)) := by
  idx_vars y
  blk_ext [idx t]
  all_goals simp only [rowOf, tileOf, tokT] <;> omega

theorem at7 (v : Vec I S6x8192x192 .fp8e4m3) (t : Fin cfg0.N) (y : S1x256x192.Idx) :
    v (((cfg0.win 7).blk t).view.emb y) = v (ix3 (rowOf t) (tokT (tileOf t) (y 1)) (y 2)) := by
  idx_vars y
  blk_ext [idx t]
  all_goals simp only [rowOf, tileOf, tokT] <;> omega

theorem at8 (v : Vec I S6x64x8192 .f32) (t : Fin cfg0.N) (y : S1x64x256.Idx) :
    v (((cfg0.win 8).blk t).view.emb y) = v (ix3 (rowOf t) (y 1) (tokT (tileOf t) (y 2))) := by
  idx_vars y
  blk_ext [idx t]
  all_goals simp only [rowOf, tileOf, tokT] <;> omega

section
variable (hG : Good (aX m c) (aSH m c) (aSC m c) (aST m c) (aG m c))
include hG

theorem final6 : (dats m 0 c).arrAt 6 (cfgs 0).N = codesA (aX m c) (aSH m c) (aSC m c) (aST m c) (aG m c) := by
  refine (dats m 0 c).arrAt_eq_of_covers 6 _ (by decide +kernel) fun t _ y => ?_
  blk_simp
  rw [after0_6]
  exact (out6_point _ _ _ (aW m c) _ _ _ _ _ _ _ _ _ _ hG (blocks m c hG t) y).trans (at6 (codesA _ _ _ _ _) t y).symm

theorem final7 : (dats m 0 c).arrAt 7 (cfgs 0).N = scalesA (aX m c) (aSH m c) (aSC m c) (aST m c) (aG m c) := by
  refine (dats m 0 c).arrAt_eq_of_covers 7 _ (by decide +kernel) fun t _ y => ?_
  blk_simp
  rw [after0_7]
  exact (out7_point _ _ _ (aW m c) _ _ _ _ _ _ _ _ _ _ hG (blocks m c hG t) y).trans (at7 (scalesA _ _ _ _ _) t y).symm

theorem final8 : (dats m 0 c).arrAt 8 (cfgs 0).N = accA (aX m c) (aSH m c) (aSC m c) (aW m c) (aST m c) (aG m c) := by
  refine (dats m 0 c).arrAt_eq_of_covers 8 _ (by decide +kernel) fun t _ y => ?_
  blk_simp
  rw [after0_8]
  exact (out8_point _ _ _ (aW m c) _ _ _ _ _ _ _ _ _ _ hG (blocks m c hG t) y).trans (at8 (accA _ _ _ _ _ _) t y).symm

end

omit c in
/-- The kernel's run with its three results named. -/
theorem run (g : Dev nD → PrngReg) (hG : ∀ c, Good (aX m c) (aSH m c) (aSC m c) (aST m c) (aG m c)) :
    θ_run defs (onTc (τ := τ) (main (F := I))) ⟨m, fun _ => 0, g⟩ fun r => ∀ c : Dev nD,
      r.2.mem ((c : Thread nD τ).loc main_v62_0) = codesA (aX m c) (aSH m c) (aSC m c) (aST m c) (aG m c)
      ∧ r.2.mem ((c : Thread nD τ).loc main_v62_1) = scalesA (aX m c) (aSH m c) (aSC m c) (aST m c) (aG m c)
      ∧ r.2.mem ((c : Thread nD τ).loc main_v62_2) = accA (aX m c) (aSH m c) (aSC m c) (aW m c) (aST m c) (aG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    have q := h c
    ⟨q.1.trans (final6 m c (hG c)), q.2.1.trans (final7 m c (hG c)), q.2.2.1.trans (final8 m c (hG c)), q.2.2.2⟩)
    (Cert.KernelIdeal.Value.run_blocks m g)

end Cert.KernelIdeal.Quant
-- ==== Proof.Quant.RPoint.lean ====
/- The reference's results one number at a time. -/
module

public import proofs.«01_k».proof.Proof.Gen.ReferenceIdeal.Value
public import proofs.«01_k».proof.Proof.Quant.Spec
public import Idealize.ShloMosaic.Lib.Pointwise
public import Idealize.ShloMosaic.PureOps.Ideal.Laws

@[expose] public section

set_option maxRecDepth 16384

noncomputable section

namespace Cert.ReferenceIdeal.Quant

open Idealize.ShloMosaic Cert.ReferenceIdeal Cert.ReferenceIdeal.Gen Cert.Nvfp4

abbrev I := Idealize.ShloMosaic.Ideal

theorem ninf : Ideal.ofBits .f32 0xFF800000#32 = (⊥ : EReal) := by
  simp [Ideal.ofBits, Ideal.ieee]

theorem fold_sup (f : Fin 16 → EReal) : Finset.univ.fold max (⊥ : EReal) f = Finset.univ.sup f := rfl

theorem max_apply (v : FVec I S6x8192x192x16 .f32) (r : Fin 6) (t : Fin 8192) (B : Fin 192) :
    multiReduction .maximumf [3] S6x8192x192 v 0xFF800000#32 reduces_S6x8192x192x16_S6x8192x192 (.inl rfl) rfl (ix3 r t B)
      = Finset.univ.sup fun k : Fin 16 => v (ix4 r t B k) := by
  refine (Ideal.multiReduction_maximumf_single v 0xFF800000#32 reduces_S6x8192x192x16_S6x8192x192 (.inl rfl) rfl (ix3 r t B)).trans ?_
  rw [show (FloatOps.ofBits FTy.f32 0xFF800000#32 : I .f32) = (⊥ : EReal) from ninf]
  refine (fold_sup _).trans (Finset.sup_congr rfl fun k _ => ?_)
  refine congrArg v ?_
  funext a
  fin_cases a <;> rfl

/-- Entry `k` of block `B`. -/
def chan (B : Fin 192) (k : Fin 16) : Fin 3072 := ⟨B.val * 16 + k.val, by omega⟩

section
variable (X : FVec I S6x8192x3072 .bf16) (SH SC : FVec I S6x3072 .f32) (ST : FVec I S6x8x8192 .f32) (GG : FVec I S6x8x128 .f32)

/-- The normalised and modulated value of channel `d`. -/
def H (r : Fin 6) (t : Fin 8192) (d : Fin 3072) : EReal :=
  (X (ix3 r t d) - ST (ix3 r 0 t)) * ST (ix3 r 2 t) * (1 + SC (ix2 r d)) + SH (ix2 r d)
/-- The largest magnitude of block `B`. -/
def A (r : Fin 6) (t : Fin 8192) (B : Fin 192) : EReal :=
  Finset.univ.sup fun k => max (H X SH SC ST r t (chan B k)) (-(H X SH SC ST r t (chan B k)))

theorem h_apply (r : Fin 6) (t : Fin 8192) (B : Fin 192) (k : Fin 16) :
    k0_pay3 X SH SC ST (ix4 r t B k) = H X SH SC ST r t (chan B k) := by
  unfold H
  pointwise [k0_pay3]
  rfl

theorem a_core (M : FVec I S6x8192x192 .f32) (r : Fin 6) (t : Fin 8192) (B : Fin 192) :
    maximumf (broadcast S6x8192x192 (Scalar.ofBits .f32 0x00000000#32))
      (divf (divf (mulf M (broadcast S6x8192x192 (Scalar.ofBits .f32 0x3F800800#32))) (broadcast S6x8192x192 (Scalar.ofBits .f32 0x40C00000#32)))
        (broadcastTo S6x8192x192 (shapeCast S6x1x1 (k0_pay2 GG) shapeCasts_S6_S6x1x1) broadcasts_S6x1x1_S6x8192x192)) (ix3 r t B)
      = max 0 (Ideal.div (Ideal.div (M (ix3 r t B) * Ideal.ofBits .f32 0x3F800800#32) (Ideal.ofBits .f32 0x40C00000#32)) (GG (ix3 r 0 0))) := by
  pointwise [k0_pay2]

theorem a_apply (r : Fin 6) (t : Fin 8192) (B : Fin 192) :
    k0_pay4 X SH SC ST GG (ix3 r t B) = max 0 (Ideal.div (Ideal.div (A X SH SC ST r t B * Ideal.ofBits .f32 0x3F800800#32)
      (Ideal.ofBits .f32 0x40C00000#32)) (GG (ix3 r 0 0))) := by
  have hA : (Finset.univ.sup fun k : Fin 16 => absf (k0_pay3 X SH SC ST) (ix4 r t B k)) = A X SH SC ST r t B := by
    unfold A
    refine Finset.sup_congr rfl fun k _ => ?_
    rw [← h_apply]; rfl
  rw [← hA]
  exact (a_core GG (multiReduction .maximumf [3] S6x8192x192 (absf (k0_pay3 X SH SC ST)) 0xFF800000#32 reduces_S6x8192x192x16_S6x8192x192 (.inl rfl) rfl) r t B).trans
    (congrArg (fun z => max 0 (Ideal.div (Ideal.div (z * Ideal.ofBits .f32 0x3F800800#32) (Ideal.ofBits .f32 0x40C00000#32)) (GG (ix3 r 0 0))))
      (max_apply _ r t B))

theorem y_apply (v13 : FVec I S6 .f32) (v27 : FVec I S6x8192x192x16 .f32) (c : EReal) (v38 : FVec I S6x8192x192 .f32) (r : Fin 6) (t : Fin 8192) (B : Fin 192) (k : Fin 16) :
    k0_pay6 v13 v27 c v38 (ix4 r t B k) = Ideal.div (v27 (ix4 r t B k)) (denS (min c (v38 (ix3 r t B))) (v13 (ix1 r))) := by
  unfold denS
  pointwise [k0_pay6, k0_pay5]
end

end Cert.ReferenceIdeal.Quant
-- ==== Proof.Quant.RPoint2.lean ====
/- The reference's codes and their decoding, one number at a time. -/
module

public import proofs.«01_k».proof.Proof.Gen.ReferenceIdeal.Value
public import proofs.«01_k».proof.Proof.Quant.RPoint
public import Idealize.ShloMosaic.Lib.Pointwise
public import Idealize.ShloMosaic.PureOps.Ideal.Laws

@[expose] public section

set_option maxRecDepth 16384

noncomputable section

namespace Cert.ReferenceIdeal.Quant

open Idealize.ShloMosaic Cert.ReferenceIdeal Cert.ReferenceIdeal.Gen Cert.Nvfp4

section
variable (v13 : FVec I S6 .f32) (v27 : FVec I S6x8192x192x16 .f32) (c : EReal) (v38 : FVec I S6x8192x192 .f32)

theorem m_apply (j : S6x8192x192x16.Idx) : k0_pay7 v13 v27 c v38 j
    = BitVec.ofNat 8 (lad (max (k0_pay6 v13 v27 c v38 j) (-k0_pay6 v13 v27 c v38 j))).val := by
  dsimp only [k0_pay7]
  generalize k0_pay6 v13 v27 c v38 = Y
  have ha : max (Y j) (-Y j) = (absf Y : FVec I S6x8192x192x16 .f32) j := rfl
  rw [ha]
  generalize (absf Y : FVec I S6x8192x192x16 .f32) = Q
  obtain ⟨h1, h2, h3, h4, h5, h6, h7⟩ := lad_spec (Q j)
  idx_vars j
  pointwise []
  simp only [c025, c075, c125, c175, c25, c35, c5, h1, h2, h3, h4, h5, h6, h7]
  generalize lad _ = k
  revert k; decide

theorem s_apply (j : S6x8192x192x16.Idx) : k0_pay8 v13 v27 c v38 j
    = BitVec.ofBool (decide (k0_pay6 v13 v27 c v38 j < 0 ∧ lad (max (k0_pay6 v13 v27 c v38 j) (-k0_pay6 v13 v27 c v38 j)) ≠ 0)) := by
  have hm := m_apply v13 v27 c v38 j
  dsimp only [k0_pay8]
  generalize k0_pay7 v13 v27 c v38 = M at *
  generalize k0_pay6 v13 v27 c v38 = Y at *
  idx_vars j
  pointwise []
  rw [hm]
  generalize lad _ = k
  by_cases h : Y (ix4 j0 j1 j2 j3) < 0 <;> simp only [h, true_and, false_and] <;> revert k <;> decide

/-- The four-bit code as the reference forms it. -/
theorem code_apply (j : S6x8192x192x16.Idx) :
    Scalar.select (k0_pay8 v13 v27 c v38 j) (IntOp.addi (k0_pay7 v13 v27 c v38 j) 8#8) (k0_pay7 v13 v27 c v38 j)
      = BitVec.ofNat 8 (nib (k0_pay6 v13 v27 c v38 j)) := by
  rw [s_apply, m_apply]
  unfold nib
  generalize k0_pay6 v13 v27 c v38 j = y
  generalize lad _ = k
  by_cases h : y < 0 <;> simp only [h, true_and, false_and] <;> revert k <;> decide

/-- The two codes of byte `p`. -/
def lowI (p : Fin 1536) : Fin 192 × Fin 16 := (⟨p.val / 8, by omega⟩, ⟨p.val % 8 * 2, by omega⟩)
def highI (p : Fin 1536) : Fin 192 × Fin 16 := (⟨p.val / 8, by omega⟩, ⟨p.val % 8 * 2 + 1, by omega⟩)

theorem byte_join (a b : ℕ) (ha : a < 16) (hb : b < 16) :
    IntOp.ori (BitVec.ofNat 8 a) (IntOp.shli .vector (BitVec.ofNat 8 b) 4#8) = BitVec.ofNat 8 (a + 16 * b) :=
  (by decide +kernel : ∀ a b : Fin 16, IntOp.ori (BitVec.ofNat 8 a.val) (IntOp.shli .vector (BitVec.ofNat 8 b.val) 4#8) = BitVec.ofNat 8 (a.val + 16 * b.val))
    ⟨a, ha⟩ ⟨b, hb⟩
theorem byte_low (a b : ℕ) (ha : a < 16) (hb : b < 16) :
    IntOp.andi (BitVec.setWidth 32 (BitVec.ofNat 8 (a + 16 * b))) 15#32 = BitVec.ofNat 32 a :=
  (by decide +kernel : ∀ a b : Fin 16, IntOp.andi (BitVec.setWidth 32 (BitVec.ofNat 8 (a.val + 16 * b.val))) 15#32 = BitVec.ofNat 32 a.val)
    ⟨a, ha⟩ ⟨b, hb⟩
theorem byte_high (a b : ℕ) (ha : a < 16) (hb : b < 16) :
    IntOp.shrsi .vector (BitVec.setWidth 32 (BitVec.ofNat 8 (a + 16 * b))) 4#32 = BitVec.ofNat 32 b :=
  (by decide +kernel : ∀ a b : Fin 16, IntOp.shrsi .vector (BitVec.setWidth 32 (BitVec.ofNat 8 (a.val + 16 * b.val))) 4#32 = BitVec.ofNat 32 b.val)
    ⟨a, ha⟩ ⟨b, hb⟩

theorem c_apply (r : Fin 6) (t : Fin 8192) (p : Fin 1536) :
    k0_pay10 (k0_pay7 v13 v27 c v38) (k0_pay8 v13 v27 c v38) k0_pay9 (ix3 r t p)
      = BitVec.ofNat 8 (nib (k0_pay6 v13 v27 c v38 (ix4 r t (lowI p).1 (lowI p).2))
        + 16 * nib (k0_pay6 v13 v27 c v38 (ix4 r t (highI p).1 (highI p).2))) := by
  have h1 := code_apply v13 v27 c v38 (ix4 r t (lowI p).1 (lowI p).2)
  have h2 := code_apply v13 v27 c v38 (ix4 r t (highI p).1 (highI p).2)
  rw [← byte_join _ _ (nib_lt _) (nib_lt _), ← h1, ← h2]
  generalize k0_pay7 v13 v27 c v38 = M
  generalize k0_pay8 v13 v27 c v38 = S
  pointwise [k0_pay10, k0_pay9]
  rfl
end

/-- A code's value, by its bits. -/
def dN (w : BitVec 32) : EReal :=
  have b (k : BitVec 32) : BitVec 1 := IntOp.cmpi .ne (IntOp.andi w k) 0#32
  have m : EReal := Scalar.select (b 4#32)
    (Scalar.select (b 2#32) (Scalar.select (b 1#32) (Ideal.ofBits .bf16 0x40C0#16) (Ideal.ofBits .bf16 0x4080#16))
      (Scalar.select (b 1#32) (Ideal.ofBits .bf16 0x4040#16) (Ideal.ofBits .bf16 0x4000#16)))
    (Scalar.select (b 2#32) (Scalar.select (b 1#32) (Ideal.ofBits .bf16 0x3FC0#16) 1)
      (Scalar.select (b 1#32) (Ideal.ofBits .bf16 0x3F00#16) 0))
  Scalar.select (b 8#32) (0 - m) m

theorem b6 : Ideal.ofBits .bf16 0x40C0#16 = ((6 : ℝ) : EReal) := by simp [Ideal.ofBits, Ideal.ieee, -EReal.coe_mul]; norm_num
theorem b4 : Ideal.ofBits .bf16 0x4080#16 = ((4 : ℝ) : EReal) := by simp [Ideal.ofBits, Ideal.ieee, -EReal.coe_mul]; norm_num
theorem b3 : Ideal.ofBits .bf16 0x4040#16 = ((3 : ℝ) : EReal) := by simp [Ideal.ofBits, Ideal.ieee, -EReal.coe_mul]; norm_num
theorem b2 : Ideal.ofBits .bf16 0x4000#16 = ((2 : ℝ) : EReal) := by simp [Ideal.ofBits, Ideal.ieee, -EReal.coe_mul]; norm_num
theorem b15 : Ideal.ofBits .bf16 0x3FC0#16 = ((3 / 2 : ℝ) : EReal) := by simp [Ideal.ofBits, Ideal.ieee, -EReal.coe_mul]; norm_num
theorem b05 : Ideal.ofBits .bf16 0x3F00#16 = ((1 / 2 : ℝ) : EReal) := by simp [Ideal.ofBits, Ideal.ieee, -EReal.coe_mul]; norm_num

theorem dN_nib (y : EReal) : dN (BitVec.ofNat 32 (nib y)) = dec y := by
  unfold nib dec
  generalize lad _ = k
  unfold dN
  rw [b6, b4, b3, b2, b15, b05]
  by_cases h : y < 0 <;> simp only [h, true_and, false_and, if_true, if_false] <;> fin_cases k <;>
    simp [Scalar.select, IntOp.cmpi, IntOp.andi, tab]

theorem lo_apply (v80 : IVec S6x8192x192x16 8) (v85 : IVec S6x8192x192x16 1) (v86 : IVec S6x8192x192x16 8) (r : Fin 6) (t : Fin 8192) (B : Fin 192) (j : Fin 8) :
    k0_pay21 (k0_pay14 v80 v85 v86) (k0_pay15 v80 v85 v86) (k0_pay16 v80 v85 v86) (k0_pay17 v80 v85 v86) (k0_pay18 (F := I) v80 v85 v86) (k0_pay19 (F := I) v80 v85 v86)
      (Scalar.ofBits .bf16 0x0000#16) (k0_pay20 (F := I)) (ix4 r t B j)
      = dN (IntOp.andi (BitVec.setWidth 32 (k0_pay10 v80 v85 v86 (ix3 r t (⟨B.val * 8 + j.val, by omega⟩ : Fin 1536)))) 15#32) := by
  unfold k0_pay14 k0_pay15 k0_pay18 k0_pay19 k0_pay20
  unfold k0_pay16 k0_pay17 k0_pay13 k0_pay12
  generalize k0_pay10 v80 v85 v86 = C
  unfold dN
  pointwise [k0_pay21]

theorem hi_apply (W : IVec S6x8192x1536 32) (r : Fin 6) (t : Fin 8192) (p : Fin 1536) :
    Scalar.select (k0_pay23 W (ix3 r t p)) (0 - k0_pay24 (F := I) W (ix3 r t p)) (k0_pay24 (F := I) W (ix3 r t p))
      = dN (IntOp.shrsi .vector (W (ix3 r t p)) 4#32) := by
  unfold dN
  pointwise [k0_pay23, k0_pay24, k0_pay22]

/-- The output that the call's row `p` is. -/
def outP (p : Fin 64) : Fin 64 := ⟨p.val / 16 % 2 * 32 + p.val / 32 * 16 + p.val % 16, by omega⟩

theorem acc_apply (v3 : Vec I S3072x64 .fp8e4m3) (v98 : FVec I S6x8192x192x1 .bf16) (v136 : FVec I S6x8192x192x8 .bf16) (v142 : IVec S6x8192x1536 1) (v169 : FVec I S6x8192x1536 .bf16)
    (r : Fin 6) (t : Fin 8192) (p : Fin 64) :
    k0_pay1 v3 v98 v136 v142 v169 (Scalar.ofBits .bf16 0x0000#16) (ix3 r p t)
      = (∑ x : Fin 1536, v136 (ix4 r t (⟨x.val / 8, by omega⟩ : Fin 192) (⟨x.val % 8, by omega⟩ : Fin 8)) * v98 (ix4 r t (⟨x.val / 8, by omega⟩ : Fin 192) 0)
          * v3 (ix2 (⟨x.val * 2, by omega⟩ : Fin 3072) (outP p)))
        + ∑ x : Fin 1536, Scalar.select (v142 (ix3 r t x)) (0 - v169 (ix3 r t x)) (v169 (ix3 r t x)) * v98 (ix4 r t (⟨x.val / 8, by omega⟩ : Fin 192) 0)
          * v3 (ix2 (⟨x.val * 2 + 1, by omega⟩ : Fin 3072) (outP p)) := by
  pointwise [k0_pay1]
  rfl

end Cert.ReferenceIdeal.Quant
-- ==== Proof.Quant.RFinal.lean ====
/- The reference's three results one number at a time, from its arguments. -/
module

public import proofs.«01_k».proof.Proof.Quant.RPoint2

@[expose] public section

set_option maxRecDepth 16384

noncomputable section

namespace Cert.ReferenceIdeal.Quant

open Idealize.ShloMosaic Cert.ReferenceIdeal Cert.ReferenceIdeal.Gen Cert.ReferenceIdeal.Value Cert.Nvfp4

/-- The block that channel `d` is in. -/
def blk (d : Fin 3072) : Fin 192 := ⟨d.val / 16, by omega⟩
/-- The even channel of pair `x`. -/
def ev (x : Fin 1536) : Fin 3072 := ⟨x.val * 2, by omega⟩
/-- The odd channel of pair `x`. -/
def od (x : Fin 1536) : Fin 3072 := ⟨x.val * 2 + 1, by omega⟩

theorem ld_x (x : Vec I S6x8192x3072 .bf16) : View.ld x r0_0 = x := View.ld_unit_zero (S := S6x8192x3072) hz0 _ x
theorem ld_s (x : Vec I S6x3072 .f32) : View.ld x r0_1 = x := View.ld_unit_zero (S := S6x3072) hz1 _ x
theorem ld_st (x : Vec I S6x8x8192 .f32) : View.ld x r0_3 = x := View.ld_unit_zero (S := S6x8x8192) hz0 _ x
theorem ld_g (x : Vec I S6x8x128 .f32) : View.ld x r0_4 = x := View.ld_unit_zero (S := S6x8x128) hz0 _ x

section
variable (X : FVec I S6x8192x3072 .bf16) (SH SC : FVec I S6x3072 .f32) (W : Vec I S3072x64 .fp8e4m3) (ST : FVec I S6x8x8192 .f32) (GG : FVec I S6x8x128 .f32)

/-- The scale of block `B`. -/
def bR (r : Fin 6) (t : Fin 8192) (B : Fin 192) : EReal := bsS (A X SH SC ST r t B) (GG (ix3 r 0 0))
/-- The scaled value of channel `d`. -/
def yR (r : Fin 6) (t : Fin 8192) (d : Fin 3072) : EReal :=
  Ideal.div (H X SH SC ST r t d) (denS (bR X SH SC ST GG r t (blk d)) (GG (ix3 r 0 0)))

theorem pay25_eq : k0_pay25 X SH SC W ST GG = k0_pay2 GG := by
  unfold k0_pay25; exact congrArg k0_pay2 (ld_g GG)
theorem pay26_eq : k0_pay26 X SH SC W ST GG = k0_pay3 X SH SC ST := by
  unfold k0_pay26
  exact (congr (congr (congr (congrArg k0_pay3 (ld_x X)) (ld_s SH)) (ld_s SC)) (ld_st ST))
theorem pay27_eq : k0_pay27 X SH SC W ST GG = k0_pay4 X SH SC ST GG := by
  unfold k0_pay27
  exact (congr (congr (congr (congr (congrArg k0_pay4 (ld_x X)) (ld_s SH)) (ld_s SC)) (ld_st ST)) (ld_g GG))

theorem g_apply (r : Fin 6) : k0_pay2 GG (ix1 r) = GG (ix3 r 0 0) := by
  pointwise [k0_pay2]

theorem A_nonneg (r : Fin 6) (t : Fin 8192) (B : Fin 192) : 0 ≤ A X SH SC ST r t B := by
  have h0 : ∀ x : EReal, 0 ≤ max x (-x) := fun x => by
    rcases le_total 0 x with h | h
    · exact le_max_of_le_left h
    · exact le_max_of_le_right (EReal.neg_nonneg.mpr h)
  exact (h0 _).trans (Finset.le_sup (f := fun k => max (H X SH SC ST r t (chan B k)) (-(H X SH SC ST r t (chan B k)))) (Finset.mem_univ (0 : Fin 16)))

theorem div_nonneg {x y : EReal} (hx : 0 ≤ x) (hy : 0 < y) : 0 ≤ Ideal.div x y := by
  unfold Ideal.div
  rw [if_neg hy.ne']
  exact mul_nonneg hx (EReal.inv_nonneg_of_nonneg hy.le)

theorem clip_apply (hg : ∀ r, 0 < GG (ix3 r 0 0)) (r : Fin 6) (t : Fin 8192) (B : Fin 192) :
    min (Ideal.ofBits .f32 0x43E00000#32) (k0_pay4 X SH SC ST GG (ix3 r t B)) = bR X SH SC ST GG r t B := by
  rw [a_apply, min_comm]
  unfold bR bsS
  congr 1
  apply max_eq_right
  refine div_nonneg (div_nonneg (mul_nonneg (A_nonneg X SH SC ST r t B) ?_) ?_) (hg r)
  · simp [Ideal.ofBits, Ideal.ieee, -EReal.coe_mul]
  · rw [c6]; exact_mod_cast (by norm_num : (0 : ℝ) < 6)

theorem y_apply' (hg : ∀ r, 0 < GG (ix3 r 0 0)) (r : Fin 6) (t : Fin 8192) (B : Fin 192) (k : Fin 16) :
    k0_pay6 (k0_pay25 X SH SC W ST GG) (k0_pay26 X SH SC W ST GG) (Ideal.ofBits .f32 0x43E00000#32) (k0_pay27 X SH SC W ST GG) (ix4 r t B k)
      = yR X SH SC ST GG r t (chan B k) := by
  rw [y_apply, pay25_eq, pay26_eq, pay27_eq, clip_apply X SH SC ST GG hg, h_apply, g_apply]
  unfold yR
  rw [show blk (chan B k) = B from Fin.ext (by simp only [blk, chan]; omega)]

theorem bytes (hg : ∀ r, 0 < GG (ix3 r 0 0)) (r : Fin 6) (t : Fin 8192) (p : Fin 1536) :
    k0_pay10 (k0_pay29 X SH SC W ST GG) (k0_pay30 X SH SC W ST GG) (k0_pay31 X SH SC W ST GG) (ix3 r t p)
      = BitVec.ofNat 8 (nib (yR X SH SC ST GG r t (ev p)) + 16 * nib (yR X SH SC ST GG r t (od p))) := by
  refine (c_apply (k0_pay25 X SH SC W ST GG) (k0_pay26 X SH SC W ST GG) (Ideal.ofBits .f32 0x43E00000#32) (k0_pay27 X SH SC W ST GG) r t p).trans ?_
  rw [y_apply' X SH SC W ST GG hg, y_apply' X SH SC W ST GG hg]
  rw [show chan (lowI p).1 (lowI p).2 = ev p from Fin.ext (by simp only [lowI, chan, ev]; omega),
    show chan (highI p).1 (highI p).2 = od p from Fin.ext (by simp only [highI, chan, od]; omega)]

theorem codes_at (hg : ∀ r, 0 < GG (ix3 r 0 0)) (r : Fin 6) (t : Fin 8192) (p : Fin 1536) :
    G6 (F := I) X SH SC W ST GG (ix3 r t p)
      = BitVec.ofNat 8 (nib (yR X SH SC ST GG r t (ev p)) + 16 * nib (yR X SH SC ST GG r t (od p))) :=
  bytes X SH SC W ST GG hg r t p

theorem bs_at (hg : ∀ r, 0 < GG (ix3 r 0 0)) (r : Fin 6) (t : Fin 8192) (B : Fin 192) :
    G7 (F := I) X SH SC W ST GG (ix3 r t B) = bR X SH SC ST GG r t B := by
  refine Eq.trans ?_ (clip_apply X SH SC ST GG hg r t B)
  rw [← pay27_eq X SH SC W ST GG]
  rfl

theorem scale_at (hg : ∀ r, 0 < GG (ix3 r 0 0)) (r : Fin 6) (t : Fin 8192) (B : Fin 192) :
    k0_pay11 (k0_pay28 (F := I) X SH SC W ST GG) (ix4 r t B 0) = bR X SH SC ST GG r t B := by
  refine Eq.trans ?_ (bs_at X SH SC W ST GG hg r t B)
  show _ = k0_pay28 (F := I) X SH SC W ST GG (ix3 r t B)
  generalize k0_pay28 (F := I) X SH SC W ST GG = C
  pointwise [k0_pay11]

/-- The decoded and scaled value of channel `d`. -/
def vR (r : Fin 6) (t : Fin 8192) (d : Fin 3072) : EReal := dec (yR X SH SC ST GG r t d) * bR X SH SC ST GG r t (blk d)

theorem acc_at (hg : ∀ r, 0 < GG (ix3 r 0 0)) (r : Fin 6) (p : Fin 64) (t : Fin 8192) :
    G8 (F := I) X SH SC W ST GG (ix3 r p t)
      = (∑ x : Fin 1536, vR X SH SC ST GG r t (ev x) * W (ix2 (ev x) (outP p)))
        + ∑ x : Fin 1536, vR X SH SC ST GG r t (od x) * W (ix2 (od x) (outP p)) := by
  refine (acc_apply _ _ _ _ _ r t p).trans ?_
  congr 1
  · refine Finset.sum_congr rfl fun x _ => ?_
    rw [lo_apply, scale_at X SH SC W ST GG hg]
    have e : (⟨x.val / 8 * 8 + x.val % 8, by omega⟩ : Fin 1536) = x := Fin.ext (by simp only; omega)
    rw [e, bytes X SH SC W ST GG hg, byte_low _ _ (nib_lt _) (nib_lt _), dN_nib]
    unfold vR
    rw [show blk (ev x) = (⟨x.val / 8, by omega⟩ : Fin 192) from Fin.ext (by simp only [blk, ev]; omega)]
    rfl
  · refine Finset.sum_congr rfl fun x _ => ?_
    rw [hi_apply, scale_at X SH SC W ST GG hg]
    have e : k0_pay32 (F := I) X SH SC W ST GG (ix3 r t x) = BitVec.setWidth 32 (k0_pay10 (k0_pay29 X SH SC W ST GG) (k0_pay30 X SH SC W ST GG) (k0_pay31 X SH SC W ST GG) (ix3 r t x)) := by
      unfold k0_pay32
      pointwise [k0_pay12]
    rw [e, bytes X SH SC W ST GG hg, byte_high _ _ (nib_lt _) (nib_lt _), dN_nib]
    unfold vR
    rw [show blk (od x) = (⟨x.val / 8, by omega⟩ : Fin 192) from Fin.ext (by simp only [blk, od]; omega)]
    rfl
end

end Cert.ReferenceIdeal.Quant
-- ==== Proof.Quant.Same.lean ====
/- The two programs' results, array by array. -/
module

public import proofs.«01_k».proof.Proof.Quant.KFinal
public import proofs.«01_k».proof.Proof.Quant.RFinal

@[expose] public section

set_option maxRecDepth 16384

noncomputable section

namespace Cert.Same
open Idealize.ShloMosaic Cert.Nvfp4

abbrev I := Idealize.ShloMosaic.Ideal

variable (X : FVec I Cert.KernelIdeal.S6x8192x3072 .bf16) (SH SC : FVec I Cert.KernelIdeal.S6x3072 .f32) (W : Vec I Cert.KernelIdeal.S3072x64 .fp8e4m3)
  (ST : FVec I Cert.KernelIdeal.S6x8x8192 .f32) (GG : FVec I Cert.KernelIdeal.S6x8x128 .f32) (hg : ∀ r : Fin 6, 0 < GG (ix3 r 0 0))

theorem ix3_eta {a b c : Nat} (y : Shape.Idx ⟨3, ![a, b, c]⟩) : ∃ (i : Fin a) (j : Fin b) (k : Fin c), y = ix3 i j k := by
  refine ⟨y 0, y 1, y 2, ?_⟩
  funext d
  fin_cases d <;> rfl

include hg

theorem codes : Cert.ReferenceIdeal.Value.G6 (F := I) X SH SC W ST GG = Cert.KernelIdeal.Quant.codesA X SH SC ST GG := by
  funext y
  obtain ⟨r, t, p, rfl⟩ := ix3_eta y
  exact Cert.ReferenceIdeal.Quant.codes_at X SH SC W ST GG hg r t p

theorem scales : Cert.ReferenceIdeal.Value.G7 (F := I) X SH SC W ST GG = Cert.KernelIdeal.Quant.scalesA X SH SC ST GG := by
  funext y
  obtain ⟨r, t, p, rfl⟩ := ix3_eta y
  exact Cert.ReferenceIdeal.Quant.bs_at X SH SC W ST GG hg r t p

omit hg in
/-- A sum over all channels is the sum over the even ones and the sum over the odd ones. -/
theorem sum_even_odd (f : Fin 3072 → EReal) :
    ∑ d : Fin 3072, f d = (∑ x : Fin 1536, f (Cert.ReferenceIdeal.Quant.ev x)) + ∑ x : Fin 1536, f (Cert.ReferenceIdeal.Quant.od x) := by
  rw [← Finset.sum_add_distrib]
  refine (Fin.sum_univ_tiles 1536 2 rfl f).trans (Finset.sum_congr rfl fun x _ => ?_)
  rw [Fin.sum_univ_two]
  rfl

theorem product : Cert.ReferenceIdeal.Value.G8 (F := I) X SH SC W ST GG = Cert.KernelIdeal.Quant.accA X SH SC W ST GG := by
  funext y
  obtain ⟨r, p, t, rfl⟩ := ix3_eta y
  refine (Cert.ReferenceIdeal.Quant.acc_at X SH SC W ST GG hg r p t).trans ?_
  refine (sum_even_odd fun d => Cert.ReferenceIdeal.Quant.vR X SH SC ST GG r t d * W (ix2 d (Cert.ReferenceIdeal.Quant.outP p))).symm.trans ?_
  exact Finset.sum_congr rfl fun d _ => mul_comm _ _

end Cert.Same
-- ==== Proof.Quant.Pre.lean ====
/- The precondition read one number at a time. -/
module

public import proofs.«01_k».proof.Pre_statistics_in_range
public import proofs.«01_k».proof.Proof.Quant.PointVal

@[expose] public section

set_option maxRecDepth 16384

noncomputable section

namespace Cert.PreAt
open Idealize.ShloMosaic Cert.Pre_statistics_in_range Cert.Nvfp4

abbrev I := Idealize.ShloMosaic.Ideal

theorem facts : Cert.Pre_statistics_in_range.Facts where
  bitsLt_bf16_f32 := by decide
  bcast_S_S6x8192x3072 := by decide
  bcast_S_S6x3072 := by decide
  slices_S6x8x8192_S6x3x8192_0_0_0 := by decide
  bcast_S_S6x3x8192 := by decide
  slices_S6x8x8192_S6x1x8192_0_1_0 := by decide
  shapeCasts_S6x1x8192_S6x8192 := by decide
  slices_S6x8x8192_S6x1x8192_0_2_0 := by decide
  bcast_S_S6x8192 := by decide
  bcast_S_S6x8x128 := by decide
  slices_S6x8x128_S6x1x1_0_0_0 := by decide
  bcast_S6x1x1_S6x8x128_0_1_2 := by decide

theorem inf32 : Ideal.ofBits .f32 0x7F800000#32 = (⊤ : EReal) := by
  simp [Ideal.ofBits, Ideal.ieee]

theorem one32 : Ideal.ofBits .f32 0x3F800000#32 = (1 : EReal) := by
  simp [Ideal.ofBits, Ideal.ieee]
  norm_cast
  norm_num

theorem zero32 : Ideal.ofBits .f32 0x00000000#32 = (0 : EReal) := by
  simp [Ideal.ofBits, Ideal.ieee]

/-- A magnitude below infinity is a real number's. -/
theorem real_of (x : EReal) (h : BitVec.ofBool (decide (max x (-x) < (⊤ : EReal))) = 1#1) : ∃ v : ℝ, x = (v : EReal) := by
  have h' : max x (-x) < ⊤ := by
    by_contra hn
    rw [decide_eq_false hn] at h
    exact absurd h (by decide)
  induction x using EReal.rec with
  | bot => simp at h'
  | coe v => exact ⟨v, rfl⟩
  | top => simp at h'

theorem of_bool {p : Prop} [Decidable p] (h : BitVec.ofBool (decide p) = 1#1) : p := by
  by_contra hn
  rw [decide_eq_false hn] at h
  exact absurd h (by decide)

variable [Facts]
variable (X : FVec I S6x8192x3072 .bf16) (SH SC : FVec I S6x3072 .f32) (W : FVec I S3072x64 .fp8e4m3) (ST : FVec I S6x8x8192 .f32) (GG : FVec I S6x8x128 .f32)

theorem x_at (i : S6x8192x3072.Idx) : (fn (F := I) X SH SC W ST GG).1 i = BitVec.ofBool (decide (max (X i) (-(X i)) < (⊤ : EReal))) := by
  rw [← inf32]; rfl
theorem sh_at (i : S6x3072.Idx) : (fn (F := I) X SH SC W ST GG).2.1 i = BitVec.ofBool (decide (max (SH i) (-(SH i)) < (⊤ : EReal))) := by
  rw [← inf32]; rfl
theorem sc_at (i : S6x3072.Idx) : (fn (F := I) X SH SC W ST GG).2.2.1 i = BitVec.ofBool (decide (max (SC i) (-(SC i)) < (⊤ : EReal))) := by
  rw [← inf32]; rfl
theorem st_at (r : Fin 6) (s : Fin 3) (t : Fin 8192) : (fn (F := I) X SH SC W ST GG).2.2.2.1 (ix3 r s t)
    = BitVec.ofBool (decide (max (ST (ix3 r (⟨s.val, by omega⟩ : Fin 8) t)) (-(ST (ix3 r (⟨s.val, by omega⟩ : Fin 8) t))) < (⊤ : EReal))) := by
  rw [← inf32]
  pointwise [fn, fn_part1]
  congr 4
theorem inv_at (r : Fin 6) (t : Fin 8192) : (fn (F := I) X SH SC W ST GG).2.2.2.2.1 (ix2 r t)
    = BitVec.ofBool (decide (ST (ix3 r 1 t) * ST (ix3 r 2 t) = (1 : EReal))) := by
  rw [← one32]
  pointwise [fn, fn_part1]
theorem pos_at (r : Fin 6) (t : Fin 8192) : (fn (F := I) X SH SC W ST GG).2.2.2.2.2.1 (ix2 r t)
    = BitVec.ofBool (decide ((0 : EReal) < ST (ix3 r 2 t))) := by
  rw [← zero32]
  pointwise [fn, fn_part1]
theorem g_at (i : S6x8x128.Idx) : (fn (F := I) X SH SC W ST GG).2.2.2.2.2.2.1 i = BitVec.ofBool (decide ((0 : EReal) < GG i)) := by
  rw [← zero32]; rfl
theorem geq_at (r : Fin 6) (s : Fin 8) (l : Fin 128) : (fn (F := I) X SH SC W ST GG).2.2.2.2.2.2.2 (ix3 r s l)
    = BitVec.ofBool (decide (GG (ix3 r s l) = GG (ix3 r 0 0))) := by
  pointwise [fn, fn_part1]

theorem good (h1 : (fn (F := I) X SH SC W ST GG).1 = fun _ => 1#1) (h2 : (fn (F := I) X SH SC W ST GG).2.1 = fun _ => 1#1)
    (h3 : (fn (F := I) X SH SC W ST GG).2.2.1 = fun _ => 1#1) (h4 : (fn (F := I) X SH SC W ST GG).2.2.2.1 = fun _ => 1#1)
    (h5 : (fn (F := I) X SH SC W ST GG).2.2.2.2.1 = fun _ => 1#1) (h6 : (fn (F := I) X SH SC W ST GG).2.2.2.2.2.1 = fun _ => 1#1)
    (h8 : (fn (F := I) X SH SC W ST GG).2.2.2.2.2.2.2 = fun _ => 1#1) :
    Cert.KernelIdeal.Quant.Good X SH SC ST GG where
  fx i := real_of _ ((x_at X SH SC W ST GG i).symm.trans (congrFun h1 i))
  fsh i := real_of _ ((sh_at X SH SC W ST GG i).symm.trans (congrFun h2 i))
  fsc i := real_of _ ((sc_at X SH SC W ST GG i).symm.trans (congrFun h3 i))
  f0 r t := real_of _ ((st_at X SH SC W ST GG r 0 t).symm.trans (congrFun h4 _))
  f1 r t := real_of _ ((st_at X SH SC W ST GG r 1 t).symm.trans (congrFun h4 _))
  f2 r t := real_of _ ((st_at X SH SC W ST GG r 2 t).symm.trans (congrFun h4 _))
  inv r t := of_bool ((inv_at X SH SC W ST GG r t).symm.trans (congrFun h5 _))
  pos r t := of_bool ((pos_at X SH SC W ST GG r t).symm.trans (congrFun h6 _))
  geq r s l := of_bool ((geq_at X SH SC W ST GG r s l).symm.trans (congrFun h8 _))

theorem g_pos (h7 : (fn (F := I) X SH SC W ST GG).2.2.2.2.2.2.1 = fun _ => 1#1) (r : Fin 6) : 0 < GG (ix3 r 0 0) :=
  of_bool ((g_at X SH SC W ST GG _).symm.trans (congrFun h7 _))

end Cert.PreAt
-- ==== Proof.Euler.Pixel.lean ====
/- What one grid point of guide_euler writes at one pixel. -/
module

public import proofs.«01_k».proof.Proof.Gen.EulerIdeal.Value
import Idealize.ShloMosaic.Lib.Pipeline.ValueKit
public import Idealize.ShloMosaic.Lib.Pointwise

@[expose] public section

noncomputable section

set_option maxRecDepth 16384

namespace Cert.EulerIdeal
open Idealize.ShloMosaic Idealize.ShloMosaic.TcCoe Idealize.ShloMosaic.Tactic Gen

variable (m : (ℓ : Loc nD τ sig) → Buf (Elt Ideal) ℓ)

/-- The lane that lane `l` of the left half of an image row is taken from: `l / 2`. -/
theorem lane0 (l : ℕ) (h : l < 128) : (Scalar.select
    (IntOp.cmpi CmpIPredicate.slt (IntOp.addi (IntOp.shrui ArithUnit.vector (BitVec.ofNat 32 l) 1#32) 0#32) 0#32)
    (IntOp.addi (IntOp.addi (IntOp.shrui ArithUnit.vector (BitVec.ofNat 32 l) 1#32) 0#32) 128#32)
    (IntOp.addi (IntOp.shrui ArithUnit.vector (BitVec.ofNat 32 l) 1#32) 0#32)).toNat % 128 = l / 2 :=
  (by decide +kernel : ∀ l : Fin 128, (Scalar.select
    (IntOp.cmpi CmpIPredicate.slt (IntOp.addi (IntOp.shrui ArithUnit.vector (BitVec.ofNat 32 l) 1#32) 0#32) 0#32)
    (IntOp.addi (IntOp.addi (IntOp.shrui ArithUnit.vector (BitVec.ofNat 32 l) 1#32) 0#32) 128#32)
    (IntOp.addi (IntOp.shrui ArithUnit.vector (BitVec.ofNat 32 l) 1#32) 0#32)).toNat % 128 = l.val / 2) ⟨l, h⟩

/-- The lane that lane `l` of the right half of an image row is taken from: `64 + l / 2`. -/
theorem lane1 (l : ℕ) (h : l < 128) : (Scalar.select
    (IntOp.cmpi CmpIPredicate.slt (IntOp.addi (IntOp.shrui ArithUnit.vector (BitVec.ofNat 32 l) 1#32) 64#32) 0#32)
    (IntOp.addi (IntOp.addi (IntOp.shrui ArithUnit.vector (BitVec.ofNat 32 l) 1#32) 64#32) 128#32)
    (IntOp.addi (IntOp.shrui ArithUnit.vector (BitVec.ofNat 32 l) 1#32) 64#32)).toNat % 128 = 64 + l / 2 :=
  (by decide +kernel : ∀ l : Fin 128, (Scalar.select
    (IntOp.cmpi CmpIPredicate.slt (IntOp.addi (IntOp.shrui ArithUnit.vector (BitVec.ofNat 32 l) 1#32) 64#32) 0#32)
    (IntOp.addi (IntOp.addi (IntOp.shrui ArithUnit.vector (BitVec.ofNat 32 l) 1#32) 64#32) 128#32)
    (IntOp.addi (IntOp.shrui ArithUnit.vector (BitVec.ofNat 32 l) 1#32) 64#32)).toNat % 128 = 64 + l.val / 2) ⟨l, h⟩

/-- The mask of the odd lanes. -/
theorem odd (l : ℕ) (h : l < 128) : IntOp.cmpi CmpIPredicate.eq (IntOp.andi (BitVec.ofNat 32 l) 1#32) 1#32 =
    if l % 2 = 1 then 1#1 else 0#1 :=
  (by decide +kernel : ∀ l : Fin 128, IntOp.cmpi CmpIPredicate.eq (IntOp.andi (BitVec.ofNat 32 l) 1#32) 1#32 =
    if l.val % 2 = 1 then 1#1 else 0#1) ⟨l, h⟩

/-- The four scalars that grid point `t` reads: at `t / 16`, and 3, 6 and 9 further on. -/
theorem off : ∀ t : Fin grid0.N, k0_off1 (grid0.coords t) 0 = t.val / 16 ∧ k0_off2 (grid0.coords t) 3#32 0 = 3 + t.val / 16 ∧
    k0_off2 (grid0.coords t) 6#32 0 = 6 + t.val / 16 ∧ k0_off2 (grid0.coords t) 9#32 0 = 9 + t.val / 16 := by decide +kernel

/-- One pixel of the guided velocity of a block: row `r` and token `k` of the two products, lane `l` of the row scale and the bias. -/
def pix (s1 s2 s3 : EReal) (x1 x2 : Vec Ideal S1x64x512 .f32) (x3 x4 : Vec Ideal S64x128 .f32) (r : Fin 64) (k : Fin 512) (l : Fin 128) : EReal :=
  (x2 (ix3 0 r k) * s2 * x3 (ix2 r l) + x4 (ix2 r l)) + s3 * ((x1 (ix3 0 r k) * s1 * x3 (ix2 r l) + x4 (ix2 r l)) - (x2 (ix3 0 r k) * s2 * x3 (ix2 r l) + x4 (ix2 r l)))

/-- One pixel of the latent after the step: the latent `a` and the step length `s4`. -/
def pixn (a s4 s1 s2 s3 : EReal) (x1 x2 : Vec Ideal S1x64x512 .f32) (x3 x4 : Vec Ideal S64x128 .f32) (r : Fin 64) (k : Fin 512) (l : Fin 128) : EReal :=
  a + s4 * pix s1 s2 s3 x1 x2 x3 x4 r k l

/-- The guided velocity written out is `pix`, at equal coordinates. -/
theorem pix_eq (s1 s2 s3 : EReal) (x1 x2 : Vec Ideal S1x64x512 .f32) (x3 x4 : Vec Ideal S64x128 .f32) (r r' : Fin 64) (k k' : Fin 512) (l l' : Fin 128)
    (hr : r.val = r'.val) (hk : k.val = k'.val) (hl : l.val = l'.val) :
    (x2 (ix3 0 r k) * s2 * x3 (ix2 r l) + x4 (ix2 r l)) + s3 * ((x1 (ix3 0 r k) * s1 * x3 (ix2 r l) + x4 (ix2 r l)) - (x2 (ix3 0 r k) * s2 * x3 (ix2 r l) + x4 (ix2 r l))) = pix s1 s2 s3 x1 x2 x3 x4 r' k' l' := by
  obtain rfl := Fin.ext hr
  obtain rfl := Fin.ext hk
  obtain rfl := Fin.ext hl
  rfl

/-- The Euler step written out is `pixn`, at equal coordinates. -/
theorem pixn_eq (a a' s4 s1 s2 s3 : EReal) (x1 x2 : Vec Ideal S1x64x512 .f32) (x3 x4 : Vec Ideal S64x128 .f32) (r r' : Fin 64) (k k' : Fin 512) (l l' : Fin 128)
    (ha : a = a') (hr : r.val = r'.val) (hk : k.val = k'.val) (hl : l.val = l'.val) :
    a + s4 * ((x2 (ix3 0 r k) * s2 * x3 (ix2 r l) + x4 (ix2 r l)) + s3 * ((x1 (ix3 0 r k) * s1 * x3 (ix2 r l) + x4 (ix2 r l)) - (x2 (ix3 0 r k) * s2 * x3 (ix2 r l) + x4 (ix2 r l)))) = pixn a' s4 s1 s2 s3 x1 x2 x3 x4 r' k' l' := by
  rw [pixn, ha, pix_eq s1 s2 s3 x1 x2 x3 x4 r r' k k' l l' hr hk hl]

/-- A clear bit is not set. -/
theorem one_ne : ¬ ((0#1 : BitVec 1) = 1) := by decide
/-- A set bit is set. -/
theorem one_eq : ((1#1 : BitVec 1) = 1) := by decide

end Cert.EulerIdeal
-- ==== Proof.Euler.VPoint.lean ====
/- The velocity block of one grid point, pixel by pixel. -/
module

public import proofs.«01_k».proof.Proof.Euler.Pixel
import Idealize.ShloMosaic.Lib.Pipeline.ValueKit
public import Idealize.ShloMosaic.Lib.Pointwise

@[expose] public section

noncomputable section

set_option maxRecDepth 16384

namespace Cert.EulerIdeal
open Idealize.ShloMosaic Idealize.ShloMosaic.TcCoe Idealize.ShloMosaic.Tactic Gen

variable (m : (ℓ : Loc nD τ sig) → Buf (Elt Ideal) ℓ)

set_option maxHeartbeats 8000000 in
/-- Every pixel of the velocity block that grid point `t` writes is the guided velocity `pix` of its input blocks. -/
theorem v_point (c : Dev nD) (t : Fin cfg0.N) (y : S1x16x8x256.Idx) : (outsAt0 m c t).2 y =
   pix (iblk m c 0 t (ix1 ⟨t.val / 16, by have := lt_of_lt_of_eq t.isLt N_0; omega⟩)) (iblk m c 0 t (ix1 ⟨3 + t.val / 16, by have := lt_of_lt_of_eq t.isLt N_0; omega⟩))
    (iblk m c 0 t (ix1 ⟨6 + t.val / 16, by have := lt_of_lt_of_eq t.isLt N_0; omega⟩)) (iblk m c 1 t) (iblk m c 2 t) (iblk m c 3 t) (iblk m c 4 t)
    ⟨(y 3).val % 2 * 32 + (y 2).val % 2 * 16 + (y 1).val, by have := (y 1).isLt; simp at this; omega⟩
    ⟨(y 2).val / 2 * 128 + (y 3).val / 2, by have := (y 2).isLt; have := (y 3).isLt; simp at *; omega⟩
    ⟨(y 3).val / 2, by have := (y 3).isLt; simp at *; omega⟩ := by
  unfold outsAt0
  frame_out
  canon_tiles x h
  case piece0 | piece1 | piece4 | piece5 | piece8 | piece9 | piece12 | piece13 =>
    open_payloads
    pointwise
    simp only [off]
    obtain ⟨n, hn⟩ : ∃ n : ℕ, (x 3).val = n := ⟨_, rfl⟩
    have hn' : n < 128 := by rw [← hn]; exact x3_lt
    simp only [hn, odd n hn']
    simp only [lane1 n hn']
    by_cases e : n % 2 = 1
    · simp only [if_pos e, Scalar.select, if_pos one_eq]
      refine pix_eq _ _ _ (iblk m c 1 t) (iblk m c 2 t) (iblk m c 3 t) (iblk m c 4 t) _ _ _ _ _ _ ?_ ?_ ?_ <;> simp only [] <;> omega
    · simp only [if_neg e, Scalar.select, if_neg one_ne]
      refine pix_eq _ _ _ (iblk m c 1 t) (iblk m c 2 t) (iblk m c 3 t) (iblk m c 4 t) _ _ _ _ _ _ ?_ ?_ ?_ <;> simp only [] <;> omega
  case piece2 | piece3 | piece6 | piece7 | piece10 | piece11 | piece14 | piece15 =>
    open_payloads
    pointwise
    simp only [off]
    obtain ⟨n, hn⟩ : ∃ n : ℕ, (x 3).val = n := ⟨_, rfl⟩
    have hn' : n < 128 := by rw [← hn]; exact x3_lt
    simp only [hn, odd n hn']
    simp only [lane0 n hn']
    by_cases e : n % 2 = 1
    · simp only [if_pos e, Scalar.select, if_pos one_eq]
      refine pix_eq _ _ _ (iblk m c 1 t) (iblk m c 2 t) (iblk m c 3 t) (iblk m c 4 t) _ _ _ _ _ _ ?_ ?_ ?_ <;> simp only [] <;> omega
    · simp only [if_neg e, Scalar.select, if_neg one_ne]
      refine pix_eq _ _ _ (iblk m c 1 t) (iblk m c 2 t) (iblk m c 3 t) (iblk m c 4 t) _ _ _ _ _ _ ?_ ?_ ?_ <;> simp only [] <;> omega

end Cert.EulerIdeal
-- ==== Proof.Euler.LPoint.lean ====
/- The latent block of one grid point, pixel by pixel. -/
module

public import proofs.«01_k».proof.Proof.Euler.Pixel
import Idealize.ShloMosaic.Lib.Pipeline.ValueKit
public import Idealize.ShloMosaic.Lib.Pointwise

@[expose] public section

noncomputable section

set_option maxRecDepth 16384

namespace Cert.EulerIdeal
open Idealize.ShloMosaic Idealize.ShloMosaic.TcCoe Idealize.ShloMosaic.Tactic Gen

variable (m : (ℓ : Loc nD τ sig) → Buf (Elt Ideal) ℓ)

set_option maxHeartbeats 8000000 in
/-- Every pixel of the latent block that grid point `t` writes is the latent plus the step times the guided velocity. -/
theorem latent_point (c : Dev nD) (t : Fin cfg0.N) (y : S1x16x8x256.Idx) : (outsAt0 m c t).1 y =
   pixn (iblk m c 5 t y) (iblk m c 0 t (ix1 ⟨9 + t.val / 16, by have := lt_of_lt_of_eq t.isLt N_0; omega⟩)) (iblk m c 0 t (ix1 ⟨t.val / 16, by have := lt_of_lt_of_eq t.isLt N_0; omega⟩)) (iblk m c 0 t (ix1 ⟨3 + t.val / 16, by have := lt_of_lt_of_eq t.isLt N_0; omega⟩))
    (iblk m c 0 t (ix1 ⟨6 + t.val / 16, by have := lt_of_lt_of_eq t.isLt N_0; omega⟩)) (iblk m c 1 t) (iblk m c 2 t) (iblk m c 3 t) (iblk m c 4 t)
    ⟨(y 3).val % 2 * 32 + (y 2).val % 2 * 16 + (y 1).val, by have := (y 1).isLt; simp at this; omega⟩
    ⟨(y 2).val / 2 * 128 + (y 3).val / 2, by have := (y 2).isLt; have := (y 3).isLt; simp at *; omega⟩
    ⟨(y 3).val / 2, by have := (y 3).isLt; simp at *; omega⟩ := by
  unfold outsAt0
  frame_out
  canon_tiles x h
  case piece0 | piece1 | piece4 | piece5 | piece8 | piece9 | piece12 | piece13 =>
    open_payloads
    pointwise
    simp only [off]
    obtain ⟨n, hn⟩ : ∃ n : ℕ, (x 3).val = n := ⟨_, rfl⟩
    have hn' : n < 128 := by rw [← hn]; exact x3_lt
    simp only [hn, odd n hn']
    simp only [lane1 n hn']
    by_cases e : n % 2 = 1
    · simp only [if_pos e, Scalar.select, if_pos one_eq]
      refine pixn_eq _ _ _ _ _ _ (iblk m c 1 t) (iblk m c 2 t) (iblk m c 3 t) (iblk m c 4 t) _ _ _ _ _ _ ?_ ?_ ?_ ?_
      · blk_ext
      all_goals (simp only []; omega)
    · simp only [if_neg e, Scalar.select, if_neg one_ne]
      refine pixn_eq _ _ _ _ _ _ (iblk m c 1 t) (iblk m c 2 t) (iblk m c 3 t) (iblk m c 4 t) _ _ _ _ _ _ ?_ ?_ ?_ ?_
      · blk_ext
      all_goals (simp only []; omega)
  case piece2 | piece3 | piece6 | piece7 | piece10 | piece11 | piece14 | piece15 =>
    open_payloads
    pointwise
    simp only [off]
    obtain ⟨n, hn⟩ : ∃ n : ℕ, (x 3).val = n := ⟨_, rfl⟩
    have hn' : n < 128 := by rw [← hn]; exact x3_lt
    simp only [hn, odd n hn']
    simp only [lane0 n hn']
    by_cases e : n % 2 = 1
    · simp only [if_pos e, Scalar.select, if_pos one_eq]
      refine pixn_eq _ _ _ _ _ _ (iblk m c 1 t) (iblk m c 2 t) (iblk m c 3 t) (iblk m c 4 t) _ _ _ _ _ _ ?_ ?_ ?_ ?_
      · blk_ext
      all_goals (simp only []; omega)
    · simp only [if_neg e, Scalar.select, if_neg one_ne]
      refine pixn_eq _ _ _ _ _ _ (iblk m c 1 t) (iblk m c 2 t) (iblk m c 3 t) (iblk m c 4 t) _ _ _ _ _ _ ?_ ?_ ?_ ?_
      · blk_ext
      all_goals (simp only []; omega)

end Cert.EulerIdeal
-- ==== Proof.Euler.Blocks.lean ====
/- The arrays the host prepares before guide_euler runs, its input blocks, and its two result arrays, one number at a time. -/
module

public import proofs.«01_k».proof.Proof.Gen.EulerIdeal.Value
public import Idealize.ShloMosaic.Lib.Pointwise
public import Idealize.ShloMosaic.Lib.Pipeline.ValueKit
public import Idealize.ShloMosaic.Lib.StableHlo.RunRead

@[expose] public section

set_option maxRecDepth 16384

noncomputable section

namespace Cert.EulerIdeal
open Idealize.ShloMosaic Idealize.ShloMosaic.TcCoe Idealize.SL.Sem Cert.EulerIdeal.Gen

/-- The twelve scalars: the row scales, the guidance and the step lengths. -/
def scalH (g : FVec Ideal S6x8x128 .f32) (gd t tn : FVec Ideal S3 .f32) : FVec Ideal S12 .f32 :=
  concatenate S12 0 [⟨S6, shapeCast S6 (extractStridedSlice S6x1x1 ![0, 0, 0] g slices_S6x8x128_S6x1x1_0_0_0) shapeCasts_S6x1x1_S6⟩, ⟨S3, gd⟩, ⟨S3, subf tn t⟩] concatenates_S6_S3_S3_S12_d0

/-- A vector over the output channels, with the two patch axes exchanged, along the lanes. -/
def outH (w : FVec Ideal S64 .f32) : FVec Ideal S64x128 .f32 :=
  broadcastInDim S64x128 ![0, 1] bcast_S64x1_S64x128_0_1 (broadcastInDim S64x1 ![0] bcast_S64_S64x1_0
    (shapeCast S64 (transpose S2x2x16 [1, 0, 2] (shapeCast S2x2x16 w shapeCasts_S64_S2x2x16) transposes_S2x2x16_S2x2x16_1_0_2) shapeCasts_S2x2x16_S64))

/-- The output channel that row `p` holds. -/
def chanP (p : Fin 64) : Fin 64 := ⟨p.val % 32 / 16 * 32 + p.val / 32 * 16 + p.val % 16, by omega⟩

theorem scal_g (g : FVec Ideal S6x8x128 .f32) (gd t tn : FVec Ideal S3 .f32) (r : Fin 6) :
    scalH g gd t tn (ix1 ⟨r.val, by omega⟩) = g (ix3 r 0 0) := by
  pointwise [scalH]

theorem scal_gd (g : FVec Ideal S6x8x128 .f32) (gd t tn : FVec Ideal S3 .f32) (b : Fin 3) :
    scalH g gd t tn (ix1 ⟨6 + b.val, by omega⟩) = gd (ix1 b) := by
  pointwise [scalH]

theorem scal_dt (g : FVec Ideal S6x8x128 .f32) (gd t tn : FVec Ideal S3 .f32) (b : Fin 3) :
    scalH g gd t tn (ix1 ⟨9 + b.val, by omega⟩) = tn (ix1 b) - t (ix1 b) := by
  pointwise [scalH]
  blk_point []
  all_goals (exfalso; omega)

theorem outH_at (w : FVec Ideal S64 .f32) (p : Fin 64) (l : Fin 128) : outH w (ix2 p l) = w (ix1 (chanP p)) := by
  pointwise [outH]
  blk_ext
  all_goals (simp only [chanP]; omega)

variable (m : (ℓ : Loc nD τ sig) → Buf (Elt Ideal) ℓ) (c : Dev nD)

/-- The arguments, at the shapes the mathematics is stated over. -/
abbrev aAcc : FVec Ideal S6x64x8192 .f32 := m ((c : Thread nD τ).loc main_arg0)
abbrev aG : FVec Ideal S6x8x128 .f32 := m ((c : Thread nD τ).loc main_arg1)
abbrev aW : FVec Ideal S64 .f32 := m ((c : Thread nD τ).loc main_arg2)
abbrev aB : FVec Ideal S64 .f32 := m ((c : Thread nD τ).loc main_arg3)
abbrev aGd : FVec Ideal S3 .f32 := m ((c : Thread nD τ).loc main_arg4)
abbrev aT : FVec Ideal S3 .f32 := m ((c : Thread nD τ).loc main_arg5)
abbrev aTn : FVec Ideal S3 .f32 := m ((c : Thread nD τ).loc main_arg6)
abbrev aLat : FVec Ideal S3x16x128x256 .f32 := m ((c : Thread nD τ).loc main_arg7)

theorem scal_read : V m c main_v3 = scalH (aG m c) (aGd m c) (aT m c) (aTn m c) := by
  unfold V
  after_reads_simp
  rfl
theorem w_read : V m c main_v8 = outH (aW m c) := by
  unfold V
  after_reads_simp
  rfl
theorem b_read : V m c main_v13 = outH (aB m c) := by
  unfold V
  after_reads_simp
  rfl
theorem acc_read : V m c main_arg0 = aAcc m c := by
  unfold V
  after_reads_simp
theorem lat_read : V m c main_arg7 = aLat m c := by
  unfold V
  after_reads_simp

theorem idx : ∀ t : Fin cfg0.N,
    win0_0.index t = ![0] ∧ win0_1.index t = ![t.val / 16, 0, t.val % 16] ∧ win0_2.index t = ![t.val / 16 + 3, 0, t.val % 16]
    ∧ win0_3.index t = ![0, 0] ∧ win0_4.index t = ![0, 0] ∧ win0_5.index t = ![t.val / 16, 0, t.val % 16, 0]
    ∧ win0_6.index t = ![t.val / 16, 0, t.val % 16, 0] ∧ win0_7.index t = ![t.val / 16, 0, t.val % 16, 0] :=
  (by decide +kernel : ∀ t : Fin grid0.N, _)

theorem lt_N (t : Fin cfg0.N) : t.val < 48 := t.isLt
/-- The batch element of a grid point. -/
def batchOf (t : Fin cfg0.N) : Fin 3 := ⟨t.val / 16, by have := lt_N t; omega⟩
/-- The token that lane `k` of a grid point's blocks holds. -/
def tokOf (t : Fin cfg0.N) (k : Fin 512) : Fin 8192 := ⟨t.val % 16 * 512 + k.val, by omega⟩
/-- The image row that row `h` of a grid point's image blocks holds. -/
def lineOf (t : Fin cfg0.N) (h : Fin 8) : Fin 128 := ⟨t.val % 16 * 8 + h.val, by omega⟩
/-- The row of the conditional half. -/
def rowC (b : Fin 3) : Fin 6 := ⟨b.val, by omega⟩
/-- The row of the unconditional half. -/
def rowU (b : Fin 3) : Fin 6 := ⟨3 + b.val, by omega⟩

theorem rd0 (v : Vec Ideal S12 .f32) (t : Fin cfg0.N) (k : Fin 12) : (((cfg0.win 0).blk t).view.read (Elt Ideal) v : Vec Ideal _ _) (ix1 k) = v (ix1 k) := by
  blk_ext [idx t]
theorem rd1 (v : Vec Ideal S6x64x8192 .f32) (t : Fin cfg0.N) (p : Fin 64) (k : Fin 512) : (((cfg0.win 1).blk t).view.read (Elt Ideal) v : Vec Ideal _ _) (ix3 0 p k) = v (ix3 (rowC (batchOf t)) p (tokOf t k)) := by
  blk_ext [idx t]
  all_goals simp only [rowC, batchOf, tokOf] <;> omega
theorem rd2 (v : Vec Ideal S6x64x8192 .f32) (t : Fin cfg0.N) (p : Fin 64) (k : Fin 512) : (((cfg0.win 2).blk t).view.read (Elt Ideal) v : Vec Ideal _ _) (ix3 0 p k) = v (ix3 (rowU (batchOf t)) p (tokOf t k)) := by
  blk_ext [idx t]
  all_goals simp only [rowU, batchOf, tokOf] <;> omega
theorem rd3 (v : Vec Ideal S64x128 .f32) (t : Fin cfg0.N) (p : Fin 64) (l : Fin 128) : (((cfg0.win 3).blk t).view.read (Elt Ideal) v : Vec Ideal _ _) (ix2 p l) = v (ix2 p l) := by
  blk_ext [idx t]
theorem rd4 (v : Vec Ideal S64x128 .f32) (t : Fin cfg0.N) (p : Fin 64) (l : Fin 128) : (((cfg0.win 4).blk t).view.read (Elt Ideal) v : Vec Ideal _ _) (ix2 p l) = v (ix2 p l) := by
  blk_ext [idx t]
theorem rd5 (v : Vec Ideal S3x16x128x256 .f32) (t : Fin cfg0.N) (a : Fin 1) (ch : Fin 16) (h : Fin 8) (w : Fin 256) :
    (((cfg0.win 5).blk t).view.read (Elt Ideal) v : Vec Ideal _ _) (ix4 a ch h w) = v (ix4 (batchOf t) ch (lineOf t h) w) := by
  blk_ext [idx t]
  all_goals simp only [batchOf, lineOf] <;> omega

/-- What the blocks of grid point `t` hold. -/
theorem blk0 (t : Fin cfg0.N) (k : Fin 12) : iblk m c 0 t (ix1 k) = scalH (aG m c) (aGd m c) (aT m c) (aTn m c) (ix1 k) :=
  (rd0 (V m c main_v3) t k).trans (by rw [scal_read])
theorem blk1 (t : Fin cfg0.N) (p : Fin 64) (k : Fin 512) : iblk m c 1 t (ix3 0 p k) = aAcc m c (ix3 (rowC (batchOf t)) p (tokOf t k)) :=
  (rd1 (V m c main_arg0) t p k).trans (by rw [acc_read])
theorem blk2 (t : Fin cfg0.N) (p : Fin 64) (k : Fin 512) : iblk m c 2 t (ix3 0 p k) = aAcc m c (ix3 (rowU (batchOf t)) p (tokOf t k)) :=
  (rd2 (V m c main_arg0) t p k).trans (by rw [acc_read])
theorem blk3 (t : Fin cfg0.N) (p : Fin 64) (l : Fin 128) : iblk m c 3 t (ix2 p l) = aW m c (ix1 (chanP p)) :=
  (rd3 (V m c main_v8) t p l).trans (by rw [w_read]; exact outH_at _ p l)
theorem blk4 (t : Fin cfg0.N) (p : Fin 64) (l : Fin 128) : iblk m c 4 t (ix2 p l) = aB m c (ix1 (chanP p)) :=
  (rd4 (V m c main_v13) t p l).trans (by rw [b_read]; exact outH_at _ p l)
theorem blk5 (t : Fin cfg0.N) (a : Fin 1) (ch : Fin 16) (h : Fin 8) (w : Fin 256) : iblk m c 5 t (ix4 a ch h w) = aLat m c (ix4 (batchOf t) ch (lineOf t h) w) :=
  (rd5 (V m c main_arg7) t a ch h w).trans (by rw [lat_read])

end Cert.EulerIdeal
-- ==== Proof.Euler.Final.lean ====
/- The two arrays of guide_euler after its run, one pixel at a time. -/
module

public import proofs.«01_k».proof.Proof.Euler.VPoint
public import proofs.«01_k».proof.Proof.Euler.LPoint
public import proofs.«01_k».proof.Proof.Euler.Blocks

@[expose] public section

set_option maxRecDepth 16384

noncomputable section

namespace Cert.EulerIdeal
open Idealize.ShloMosaic Idealize.ShloMosaic.TcCoe Idealize.SL.Sem Cert.EulerIdeal.Gen

section
variable (acc : FVec Ideal S6x64x8192 .f32) (g : FVec Ideal S6x8x128 .f32) (w bo : FVec Ideal S64 .f32) (gd t tn : FVec Ideal S3 .f32) (lat : FVec Ideal S3x16x128x256 .f32)

/-- The projected value of row `p` of the product at token `s`. -/
def yAt (r : Fin 6) (p : Fin 64) (s : Fin 8192) : EReal := acc (ix3 r p s) * g (ix3 r 0 0) * w (ix1 (chanP p)) + bo (ix1 (chanP p))
/-- The guided velocity of row `p` of the product at token `s`. -/
def velAt (b : Fin 3) (p : Fin 64) (s : Fin 8192) : EReal :=
  yAt acc g w bo (rowU b) p s + gd (ix1 b) * (yAt acc g w bo (rowC b) p s - yAt acc g w bo (rowU b) p s)
/-- The product's row that holds a pixel. -/
def pixRow (ch : Fin 16) (H : Fin 128) (W : Fin 256) : Fin 64 := ⟨W.val % 2 * 32 + H.val % 2 * 16 + ch.val, by omega⟩
/-- The token that holds a pixel. -/
def pixTok (H : Fin 128) (W : Fin 256) : Fin 8192 := ⟨H.val / 2 * 128 + W.val / 2, by omega⟩
/-- The array of the guided velocity. -/
def velA : FVec Ideal S3x16x128x256 .f32 := fun y => velAt acc g w bo gd (y 0) (pixRow (y 1) (y 2) (y 3)) (pixTok (y 2) (y 3))
/-- The array of the latent after the step. -/
def nextA : FVec Ideal S3x16x128x256 .f32 := fun y => lat y + (tn (ix1 (y 0)) - t (ix1 (y 0))) * velA acc g w bo gd y
end

/-- A pixel's value from the values of what it is made of. -/
theorem pix_val {s1 s2 s3 g1 g2 d a1 a2 u b : EReal} {x1 x2 : Vec Ideal S1x64x512 .f32} {x3 x4 : Vec Ideal S64x128 .f32} {r : Fin 64} {k : Fin 512} {l : Fin 128}
    (h1 : s1 = g1) (h2 : s2 = g2) (h3 : s3 = d) (h4 : x1 (ix3 0 r k) = a1) (h5 : x2 (ix3 0 r k) = a2) (h6 : x3 (ix2 r l) = u) (h7 : x4 (ix2 r l) = b) :
    pix s1 s2 s3 x1 x2 x3 x4 r k l = (a2 * g2 * u + b) + d * ((a1 * g1 * u + b) - (a2 * g2 * u + b)) := by
  subst h1 h2 h3 h4 h5 h6 h7
  rfl

/-- A pixel of the latent from the values of what it is made of. -/
theorem pixn_val {a a' s4 d4 s1 s2 s3 v : EReal} {x1 x2 : Vec Ideal S1x64x512 .f32} {x3 x4 : Vec Ideal S64x128 .f32} {r : Fin 64} {k : Fin 512} {l : Fin 128}
    (ha : a = a') (h4 : s4 = d4) (h : pix s1 s2 s3 x1 x2 x3 x4 r k l = v) : pixn a s4 s1 s2 s3 x1 x2 x3 x4 r k l = a' + d4 * v := by
  subst ha h4 h
  rfl

variable (m : (ℓ : Loc nD τ sig) → Buf (Elt Ideal) ℓ) (c : Dev nD)

/-- The four scalars of grid point `t`. -/
theorem sc0 (t : Fin cfg0.N) (h) : iblk m c 0 t (ix1 ⟨t.val / 16, h⟩) = aG m c (ix3 (rowC (batchOf t)) 0 0) :=
  (blk0 m c t _).trans (scal_g _ _ _ _ (rowC (batchOf t)))
theorem sc1 (t : Fin cfg0.N) (h) : iblk m c 0 t (ix1 ⟨3 + t.val / 16, h⟩) = aG m c (ix3 (rowU (batchOf t)) 0 0) :=
  (blk0 m c t _).trans (scal_g _ _ _ _ (rowU (batchOf t)))
theorem sc2 (t : Fin cfg0.N) (h) : iblk m c 0 t (ix1 ⟨6 + t.val / 16, h⟩) = aGd m c (ix1 (batchOf t)) :=
  (blk0 m c t _).trans (scal_gd _ _ _ _ (batchOf t))
theorem sc3 (t : Fin cfg0.N) (h) : iblk m c 0 t (ix1 ⟨9 + t.val / 16, h⟩) = aTn m c (ix1 (batchOf t)) - aT m c (ix1 (batchOf t)) :=
  (blk0 m c t _).trans (scal_dt _ _ _ _ (batchOf t))

/-- The guided velocity of a grid point's blocks, from the arguments. -/
theorem pix_blk (t : Fin cfg0.N) (h1) (h2) (h3) (r : Fin 64) (k : Fin 512) (l : Fin 128) :
    pix (iblk m c 0 t (ix1 ⟨t.val / 16, h1⟩)) (iblk m c 0 t (ix1 ⟨3 + t.val / 16, h2⟩)) (iblk m c 0 t (ix1 ⟨6 + t.val / 16, h3⟩))
      (iblk m c 1 t) (iblk m c 2 t) (iblk m c 3 t) (iblk m c 4 t) r k l
      = velAt (aAcc m c) (aG m c) (aW m c) (aB m c) (aGd m c) (batchOf t) r (tokOf t k) :=
  pix_val (sc0 m c t h1) (sc1 m c t h2) (sc2 m c t h3) (blk1 m c t r k) (blk2 m c t r k) (blk3 m c t r l) (blk4 m c t r l)

/-- Where grid point `t`'s block of the first result lies in the image. -/
theorem at6 (v : Vec Ideal S3x16x128x256 .f32) (t : Fin cfg0.N) (y : S1x16x8x256.Idx) :
    v (((cfg0.win 6).blk t).view.emb y) = v (ix4 (batchOf t) (y 1) (lineOf t (y 2)) (y 3)) := by
  idx_vars y
  blk_ext [idx t]
  all_goals simp only [batchOf, lineOf] <;> omega

/-- Where grid point `t`'s block of the second result lies in the image. -/
theorem at7 (v : Vec Ideal S3x16x128x256 .f32) (t : Fin cfg0.N) (y : S1x16x8x256.Idx) :
    v (((cfg0.win 7).blk t).view.emb y) = v (ix4 (batchOf t) (y 1) (lineOf t (y 2)) (y 3)) := by
  idx_vars y
  blk_ext [idx t]
  all_goals simp only [batchOf, lineOf] <;> omega

/-- Grid point `t`'s block of the latent, from the argument. -/
theorem lat_at (t : Fin cfg0.N) (y : S1x16x8x256.Idx) : iblk m c 5 t y = aLat m c (ix4 (batchOf t) (y 1) (lineOf t (y 2)) (y 3)) := by
  idx_vars y
  exact blk5 m c t _ _ _ _

/-- A pixel of grid point `t`'s blocks in the whole image. -/
theorem place (t : Fin cfg0.N) (ch : Fin 16) (h : Fin 8) (w : Fin 256) (h1) (h2) (b : Fin 3)
    (acc : FVec Ideal S6x64x8192 .f32) (g : FVec Ideal S6x8x128 .f32) (u bo : FVec Ideal S64 .f32) (gd : FVec Ideal S3 .f32) :
    velAt acc g u bo gd b ⟨w.val % 2 * 32 + h.val % 2 * 16 + ch.val, h1⟩ (tokOf t ⟨h.val / 2 * 128 + w.val / 2, h2⟩)
      = velAt acc g u bo gd b (pixRow ch (lineOf t h) w) (pixTok (lineOf t h) w) := by
  rw [show (⟨w.val % 2 * 32 + h.val % 2 * 16 + ch.val, h1⟩ : Fin 64) = pixRow ch (lineOf t h) w from Fin.ext (by simp only [pixRow, lineOf]; omega),
    show tokOf t ⟨h.val / 2 * 128 + w.val / 2, h2⟩ = pixTok (lineOf t h) w from Fin.ext (by simp only [pixTok, lineOf, tokOf]; omega)]

/-- The velocity array after the run. -/
theorem final7 : (dats m 0 c).arrAt 7 (cfgs 0).N = velA (aAcc m c) (aG m c) (aW m c) (aB m c) (aGd m c) := by
  refine (dats m 0 c).arrAt_eq_of_covers 7 _ (by decide +kernel) fun t _ y => ?_
  blk_simp
  rw [after0_7]
  exact (v_point m c t y).trans ((pix_blk m c t _ _ _ _ _ _).trans ((place t (y 1) (y 2) (y 3) _ _ _ _ _ _ _ _).trans (at7 (velA _ _ _ _ _) t y).symm))

/-- The latent array after the run. -/
theorem final6 : (dats m 0 c).arrAt 6 (cfgs 0).N = nextA (aAcc m c) (aG m c) (aW m c) (aB m c) (aGd m c) (aT m c) (aTn m c) (aLat m c) := by
  refine (dats m 0 c).arrAt_eq_of_covers 6 _ (by decide +kernel) fun t _ y => ?_
  blk_simp
  rw [after0_6]
  exact (latent_point m c t y).trans ((pixn_val (lat_at m c t y) (sc3 m c t _) ((pix_blk m c t _ _ _ _ _ _).trans (place t (y 1) (y 2) (y 3) _ _ _ _ _ _ _ _))).trans
    (at6 (nextA _ _ _ _ _ _ _ _) t y).symm)

omit c in
/-- The kernel's run with its two results named. -/
theorem run (ρ : Dev nD → PrngReg) :
    θ_run defs (onTc (τ := τ) (main (F := Ideal))) ⟨m, fun _ => 0, ρ⟩ fun r => ∀ c : Dev nD,
      r.2.mem ((c : Thread nD τ).loc main_v14_0) = nextA (aAcc m c) (aG m c) (aW m c) (aB m c) (aGd m c) (aT m c) (aTn m c) (aLat m c)
      ∧ r.2.mem ((c : Thread nD τ).loc main_v14_1) = velA (aAcc m c) (aG m c) (aW m c) (aB m c) (aGd m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    have q := h c
    ⟨q.1.trans (final6 m c), q.2.1.trans (final7 m c), q.2.2⟩)
    (Cert.EulerIdeal.Value.run_blocks m ρ)

end Cert.EulerIdeal
-- ==== Proof.Euler.Ref.lean ====
/- The two results of the reference of guide_euler, one pixel at a time. -/
module

public import proofs.«01_k».proof.Proof.Gen.EulerReferenceIdeal.Run
public import Idealize.ShloMosaic.Lib.Pointwise
public import Idealize.ShloMosaic.Lib.Pipeline.ValueKit

@[expose] public section

set_option maxRecDepth 16384

noncomputable section

namespace Cert.EulerReferenceIdeal
open Idealize.ShloMosaic Idealize.ShloMosaic.TcCoe Idealize.SL.Sem Cert.EulerReferenceIdeal.Gen

variable (acc : FVec Ideal S6x64x8192 .f32) (g : FVec Ideal S6x8x128 .f32) (w bo : FVec Ideal S64 .f32) (gd t tn : FVec Ideal S3 .f32) (lat : FVec Ideal S3x16x128x256 .f32)

/-- The projected values: the product by the scale of its row and of its channel, plus the bias. -/
def yR : FVec Ideal S6x8192x64 .f32 :=
  addf (mulf (mulf (shapeCast S6x8192x64 (transpose S6x8192x2x2x16 [0, 4, 2, 1, 3] (shapeCast S6x2x2x16x8192 acc shapeCasts_S6x64x8192_S6x2x2x16x8192) transposes_S6x2x2x16x8192_S6x8192x2x2x16_0_4_2_1_3) shapeCasts_S6x8192x2x2x16_S6x8192x64)
      (broadcastInDim S6x8192x64 ![0, 1, 2] bcast_S6x1x1_S6x8192x64_0_1_2 (broadcastInDim S6x1x1 ![0] bcast_S6_S6x1x1_0 (shapeCast S6 (extractStridedSlice S6x1x1 ![0, 0, 0] g slices_S6x8x128_S6x1x1_0_0_0) shapeCasts_S6x1x1_S6))))
      (broadcastInDim S6x8192x64 ![0, 1, 2] bcast_S1x1x64_S6x8192x64_0_1_2 (broadcastInDim S1x1x64 ![2] bcast_S64_S1x1x64_2 w)))
    (broadcastInDim S6x8192x64 ![0, 1, 2] bcast_S1x1x64_S6x8192x64_0_1_2 (broadcastInDim S1x1x64 ![2] bcast_S64_S1x1x64_2 bo))

/-- The guided velocity by tokens. -/
def vR : FVec Ideal S3x8192x64 .f32 :=
  addf (extractStridedSlice S3x8192x64 ![3, 0, 0] (yR acc g w bo) slices_S6x8192x64_S3x8192x64_3_0_0)
    (mulf (broadcastInDim S3x8192x64 ![0, 1, 2] bcast_S3x1x1_S3x8192x64_0_1_2 (broadcastInDim S3x1x1 ![0] bcast_S3_S3x1x1_0 gd))
      (subf (extractStridedSlice S3x8192x64 ![0, 0, 0] (yR acc g w bo) slices_S6x8192x64_S3x8192x64_0_0_0)
        (extractStridedSlice S3x8192x64 ![3, 0, 0] (yR acc g w bo) slices_S6x8192x64_S3x8192x64_3_0_0)))

/-- The guided velocity as an image. -/
def imgR : FVec Ideal S3x16x128x256 .f32 :=
  shapeCast S3x16x128x256 (transpose S3x16x64x2x128x2 [0, 5, 1, 3, 2, 4] (shapeCast S3x64x128x2x2x16 (vR acc g w bo gd) shapeCasts_S3x8192x64_S3x64x128x2x2x16)
    transposes_S3x64x128x2x2x16_S3x16x64x2x128x2_0_5_1_3_2_4) shapeCasts_S3x16x64x2x128x2_S3x16x128x256

/-- The latent after the step. -/
def nextR : FVec Ideal S3x16x128x256 .f32 :=
  addf lat (mulf (broadcastInDim S3x16x128x256 ![0, 1, 2, 3] bcast_S3x1x1x1_S3x16x128x256_0_1_2_3 (broadcastInDim S3x1x1x1 ![0] bcast_S3_S3x1x1x1_0 (subf tn t)))
    (imgR acc g w bo gd))

/-- The product's row that holds output channel `o`. -/
def rowO (o : Fin 64) : Fin 64 := ⟨o.val % 32 / 16 * 32 + o.val / 32 * 16 + o.val % 16, by omega⟩

theorem yR_at (r : Fin 6) (s : Fin 8192) (o : Fin 64) :
    yR acc g w bo (ix3 r s o) = acc (ix3 r (rowO o) s) * g (ix3 r 0 0) * w (ix1 o) + bo (ix1 o) := by
  pointwise [yR]
  rw [show (⟨o.val / 16 % 2 * 32 + o.val / 32 * 16 + o.val % 16, by omega⟩ : Fin 64) = rowO o from Fin.ext (by simp only [rowO]; omega)]

theorem vR_at (b : Fin 3) (s : Fin 8192) (o : Fin 64) :
    vR acc g w bo gd (ix3 b s o) = yR acc g w bo (ix3 ⟨3 + b.val, by omega⟩ s o)
      + gd (ix1 b) * (yR acc g w bo (ix3 ⟨b.val, by omega⟩ s o) - yR acc g w bo (ix3 ⟨3 + b.val, by omega⟩ s o)) := by
  pointwise [vR]

theorem imgR_at (b : Fin 3) (ch : Fin 16) (H : Fin 128) (W : Fin 256) :
    imgR acc g w bo gd (ix4 b ch H W)
      = vR acc g w bo gd (ix3 b ⟨H.val / 2 * 128 + W.val / 2, by omega⟩ ⟨H.val % 2 * 32 + W.val % 2 * 16 + ch.val, by omega⟩) := by
  unfold imgR
  generalize vR acc g w bo gd = v
  pointwise
  blk_ext

theorem nextR_at (b : Fin 3) (ch : Fin 16) (H : Fin 128) (W : Fin 256) :
    nextR acc g w bo gd t tn lat (ix4 b ch H W) = lat (ix4 b ch H W) + (tn (ix1 b) - t (ix1 b)) * imgR acc g w bo gd (ix4 b ch H W) := by
  unfold nextR
  generalize imgR acc g w bo gd = v
  pointwise

/-- The reference's run with its two results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = nextR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v23) = imgR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run m ρ

end Cert.EulerReferenceIdeal
-- ==== Proof.Euler.Same.lean ====
/- The two results of guide_euler and of its reference are the same arrays. -/
module

public import proofs.«01_k».proof.Proof.Euler.Final
public import proofs.«01_k».proof.Proof.Euler.Ref

@[expose] public section

set_option maxRecDepth 16384

noncomputable section

namespace Cert.EulerSame
open Idealize.ShloMosaic

variable (acc : FVec Ideal Cert.EulerIdeal.S6x64x8192 .f32) (g : FVec Ideal Cert.EulerIdeal.S6x8x128 .f32) (w bo : FVec Ideal Cert.EulerIdeal.S64 .f32)
  (gd t tn : FVec Ideal Cert.EulerIdeal.S3 .f32) (lat : FVec Ideal Cert.EulerIdeal.S3x16x128x256 .f32)

/-- An index of four axes is its four coordinates. -/
theorem ix4_eta {a b c d : Nat} (y : Shape.Idx ⟨4, ![a, b, c, d]⟩) : ∃ (i : Fin a) (j : Fin b) (k : Fin c) (l : Fin d), y = ix4 i j k l := by
  refine ⟨y 0, y 1, y 2, y 3, ?_⟩
  funext e
  fin_cases e <;> rfl

/-- The two arrays of the guided velocity are the same. -/
theorem velocity : Cert.EulerReferenceIdeal.imgR acc g w bo gd = Cert.EulerIdeal.velA acc g w bo gd := by
  funext y
  obtain ⟨b, ch, H, W, rfl⟩ := ix4_eta y
  rw [Cert.EulerReferenceIdeal.imgR_at, Cert.EulerReferenceIdeal.vR_at, Cert.EulerReferenceIdeal.yR_at, Cert.EulerReferenceIdeal.yR_at]
  have e1 : Cert.EulerReferenceIdeal.rowO ⟨H.val % 2 * 32 + W.val % 2 * 16 + ch.val, by omega⟩ = Cert.EulerIdeal.pixRow ch H W :=
    Fin.ext (by simp only [Cert.EulerReferenceIdeal.rowO, Cert.EulerIdeal.pixRow]; omega)
  have e2 : (⟨H.val % 2 * 32 + W.val % 2 * 16 + ch.val, by omega⟩ : Fin 64) = Cert.EulerIdeal.chanP (Cert.EulerIdeal.pixRow ch H W) :=
    Fin.ext (by simp only [Cert.EulerIdeal.chanP, Cert.EulerIdeal.pixRow]; omega)
  rw [e1, e2]
  rfl

/-- The two arrays of the latent after the step are the same. -/
theorem latent : Cert.EulerReferenceIdeal.nextR acc g w bo gd t tn lat = Cert.EulerIdeal.nextA acc g w bo gd t tn lat := by
  funext y
  obtain ⟨b, ch, H, W, rfl⟩ := ix4_eta y
  rw [Cert.EulerReferenceIdeal.nextR_at, velocity]
  rfl

end Cert.EulerSame
-- ==== Proof.lean ====
/- The certificate: the frames of the kernels and of the references, the one rewrite, the three results of quant_proj and the two of guide_euler. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.Euler
public import proofs.«01_k».proof.Proof.Gen.Euler.Skeleton
public import proofs.«01_k».proof.Proof.Gen.Euler.Launch
public import proofs.«01_k».proof.Proof.Gen.Euler.Points
public import proofs.«01_k».proof.Proof.Gen.Euler.Frame
public import proofs.«01_k».proof.Proof.Gen.EulerIdeal
public import proofs.«01_k».proof.Proof.Gen.EulerIdeal.Skeleton
public import proofs.«01_k».proof.Proof.Gen.EulerIdeal.Launch
public import proofs.«01_k».proof.Proof.Gen.EulerIdeal.Points
public import proofs.«01_k».proof.Proof.Gen.EulerIdeal.Frame
public import proofs.«01_k».proof.Proof.Gen.EulerIdeal.Value
public import proofs.«01_k».proof.Proof.Gen.EulerReferenceIdeal
public import proofs.«01_k».proof.Proof.Gen.EulerReferenceIdeal.Run
public import proofs.«01_k».proof.Proof.Quant.Same
public import proofs.«01_k».proof.Proof.Quant.Pre
public import proofs.«01_k».proof.Proof.Euler.Same
public import Idealize.ShloMosaic.Lib.Bf16Pair
public import Idealize.ShloMosaic.Adequacy
public import Idealize.ShloMosaic.Init

@[expose] public section

set_option maxRecDepth 16384

noncomputable section

namespace Cert.Proof

open Idealize.ShloMosaic Idealize.SL.Sem

/-- The kernel and the reference end with the same three arrays. -/
theorem same : Cert.algebraic_KernelIdeal_ReferenceIdeal_pre_statistics_in_range
    (hKernelIdeal := Cert.KernelIdeal.Gen.facts) (hReferenceIdeal := Cert.ReferenceIdeal.Gen.facts) (hPre_statistics_in_range := Cert.PreAt.facts) := by
  intro m g m' g' hP hA
  have : Cert.Pre_statistics_in_range.Facts := Cert.PreAt.facts
  have hG : ∀ c, Cert.KernelIdeal.Quant.Good (Cert.KernelIdeal.Quant.aX m c) (Cert.KernelIdeal.Quant.aSH m c) (Cert.KernelIdeal.Quant.aSC m c)
      (Cert.KernelIdeal.Quant.aST m c) (Cert.KernelIdeal.Quant.aG m c) := fun c =>
    have p := hP c
    Cert.PreAt.good _ _ _ _ _ _ p.1 p.2.1 p.2.2.1 p.2.2.2.1 p.2.2.2.2.1 p.2.2.2.2.2.1 p.2.2.2.2.2.2.2
  have hg : ∀ c (r : Fin 6), 0 < Cert.KernelIdeal.Quant.aG m c (ix3 r 0 0) := fun c r =>
    Cert.PreAt.g_pos _ _ _ _ _ _ (hP c).2.2.2.2.2.2.1 r
  refine ⟨_, _, _, Cert.KernelIdeal.Quant.run m g hG, ?_⟩
  refine (θ_run _ _ _).mono (fun r h c => ?_) (Cert.ReferenceIdeal.Value.run m' g')
  have q := h c
  have a := hA c
  refine ⟨q.1.trans ?_, q.2.1.trans ?_, q.2.2.1.trans ?_, q.2.2.2⟩
  · rw [a.1, a.2.1, a.2.2.1, a.2.2.2.1, a.2.2.2.2.1, a.2.2.2.2.2]
    exact Cert.Same.codes _ _ _ _ _ _ (hg c)
  · rw [a.1, a.2.1, a.2.2.1, a.2.2.2.1, a.2.2.2.2.1, a.2.2.2.2.2]
    exact Cert.Same.scales _ _ _ _ _ _ (hg c)
  · rw [a.1, a.2.1, a.2.2.1, a.2.2.2.1, a.2.2.2.2.1, a.2.2.2.2.2]
    exact Cert.Same.product _ _ _ _ _ _ (hg c)

/-- The guidance and Euler step and its reference end with the same two arrays. -/
theorem same_euler : Cert.algebraic_EulerIdeal_EulerReferenceIdeal
    (hEulerIdeal := Cert.EulerIdeal.Gen.facts) (hEulerReferenceIdeal := Cert.EulerReferenceIdeal.Gen.facts) := by
  intro m g m' g' _ hA
  refine ⟨_, _, Cert.EulerIdeal.run m g, ?_⟩
  refine (θ_run _ _ _).mono (fun r h c => ?_) (Cert.EulerReferenceIdeal.run m' g')
  have q := h c
  have a := hA c
  refine ⟨q.1.trans ?_, q.2.1.trans ?_, q.2.2⟩
  · rw [a.1, a.2.1, a.2.2.1, a.2.2.2.1, a.2.2.2.2.1, a.2.2.2.2.2.1, a.2.2.2.2.2.2.1, a.2.2.2.2.2.2.2]
    exact Cert.EulerSame.latent _ _ _ _ _ _ _ _
  · rw [a.1, a.2.1, a.2.2.1, a.2.2.2.1, a.2.2.2.2.1]
    exact Cert.EulerSame.velocity _ _ _ _ _

theorem claim : Cert.Claim :=
  ⟨Cert.Kernel.Gen.facts, Cert.KernelIdeal.Gen.facts, Cert.ReferenceIdeal.Gen.facts, Cert.Euler.Gen.facts, Cert.EulerIdeal.Gen.facts,
    Cert.EulerReferenceIdeal.Gen.facts, Cert.PreAt.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    fun m ρ _ => Cert.Euler.Gen.frame m ρ,
    fun m ρ _ => Cert.EulerIdeal.Gen.frame m ρ,
    fun m ρ _ => (θ_run _ _ _).mono (fun r h => ⟨fun c => (h c).2.2, Idealize.ShloMosaic.sem_eq_zero_of_no_sems (by decide) r.2⟩) (Cert.EulerReferenceIdeal.run m ρ),
    ⟨IdealRules.bf16_pair.packStatement _, IdealRules.bf16_pair.statement _ _⟩,
    same,
    trivial,
    same_euler⟩

end Cert.Proof

end
